-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ids_in_table_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S8192x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S_ : Shape := ⟨0, ![]⟩
abbrev S512x1 : Shape := ⟨2, ![512, 1]⟩
abbrev S512x512 : Shape := ⟨2, ![512, 512]⟩

abbrev nBuf : Space → Nat
  | .hbm => 31
  | .vmem => 5
  | .smem => 0
  | _ => 0

abbrev bufTy : (tb : Table) → Fin (tcTables nBuf tb) → BufTy
  | .hbm, ⟨0, _⟩ => ⟨S512, .i32⟩
  | .hbm, ⟨1, _⟩ => ⟨S4096x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512x512, .bf16⟩
  | .hbm, ⟨29, _⟩ => ⟨S512x1, .i32⟩
  | .hbm, ⟨30, _⟩ => ⟨S512x512, .f32⟩
  | .local _ .vmem, ⟨0, _⟩ => ⟨S512x512, .bf16⟩
  | .local _ .vmem, ⟨1, _⟩ => ⟨S512x1, .i32⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 2 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_c_4 : Ref sig .tc := ⟨.hbm, 20, rfl⟩
abbrev main_v9 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9 : BitVec 32 := 8#32
  let v28 : BitVec 32 := Scalar.muli v9 c8_i32_9
  let v29 : BitVec 32 := Scalar.addi c0_i32_10 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v30 : BitVec 32 := Scalar.muli v5 c4_i32_11
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v32 : BitVec 32 := Scalar.muli v8 c1_i32_12
  let v33 : BitVec 32 := Scalar.addi v31 v32
  v33.toNat
def k0_dev2 (d0 : Dev nD) : Nat :=
  let c0_i32_15 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_14 : BitVec 32 := 8#32
  let v34 : BitVec 32 := Scalar.muli v9 c8_i32_14
  let v35 : BitVec 32 := Scalar.addi c0_i32_15 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v36 : BitVec 32 := Scalar.muli v5 c4_i32_16
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v38 : BitVec 32 := Scalar.muli v8 c1_i32_17
  let v39 : BitVec 32 := Scalar.addi v37 v38
  v39.toNat
def k0_dev3 (d0 : Dev nD) : Nat :=
  let c0_i32_31_r0 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30_r0 : BitVec 32 := 8#32
  let v53_r0 : BitVec 32 := Scalar.muli v9 c8_i32_30_r0
  let v54_r0 : BitVec 32 := Scalar.addi c0_i32_31_r0 v53_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32_r0 : BitVec 32 := 4#32
  let v55_r0 : BitVec 32 := Scalar.muli v5 c4_i32_32_r0
  let v56_r0 : BitVec 32 := Scalar.addi v54_r0 v55_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33_r0 : BitVec 32 := 1#32
  let v57_r0 : BitVec 32 := Scalar.muli v8 c1_i32_33_r0
  let v58_r0 : BitVec 32 := Scalar.addi v56_r0 v57_r0
  v58_r0.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 12
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .bf16⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .bf16⟩
  | .hbm, ⟨11, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Proto.lean ====
/-
  THE PROTOCOL of the exchange kernel, as one schedule over four semaphores per device.

  The sixteen devices form eight pairs: device `c` and its partner across the mesh axis `x`, `peer c`. Within a pair each
  device raises the other's BARRIER semaphore (handing it the own landing buffer), copies its block into the partner's
  landing buffer (the partner's RECV semaphore announces the arrival, the own SEND semaphore the end of the reading), and
  finally raises the partner's ACK semaphore. Each of the four semaphores is therefore used for one round only, with one
  payment in it, and the schedule is written once for all four, indexed by `Fin 4`.

  The block that a device sends is a parameter here: `x c`. Nothing of its value is used in this module.
-/
module

public import proofs.«01_k».proof.Proof.Gen.KernelIdeal
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The user algebra: the pipeline's copy of the rounds algebra beside the exchange's own. -/
abbrev UU : Type := UR sig nD τ × UR sig nD τ

local notation "𝕄" => MT nD τ sig Unit (Elt F) ℕ UU ℕ

/-- The pipeline's copy. -/
abbrev EP : Emb (UR sig nD τ) (MT nD τ sig Unit (Elt F) ℕ UU ℕ) := embL
/-- The exchange's copy. -/
abbrev ER : Emb (UR sig nD τ) (MT nD τ sig Unit (Elt F) ℕ UU ℕ) := embR

/-! ## The pairs of devices -/

/-- The partner of a device: the one eight places on, around the sixteen. -/
def peer (c : Dev nD) : Dev nD := ⟨(c.val + 8) % 16, Nat.mod_lt _ (by decide)⟩

/-- The partner's partner is the device itself. -/
theorem peer_peer (c : Dev nD) : peer (peer c) = c := by revert c; decide

/-- `peer` as a permutation of the devices. -/
def swap : Dev nD ≃ Dev nD := ⟨peer, peer, peer_peer, peer_peer⟩

/-- The closed form of the device that each of the kernel's three chains names is the partner's number. -/
theorem chain_val (c : Dev nD) : (4 * ((c.val / 4) % 2) + c.val % 4 + 8) - 8 * (c.val / 8) = (peer c).val := by
  revert c; decide

/-- The device of the barrier signal is the partner. -/
theorem dev1_peer (c : Dev nD) : (⟨k0_dev1 c, k0_dev1_lt c⟩ : Dev nD) = peer c := Fin.ext ((k0_dev1_eq c).trans (chain_val c))
/-- The target of the copy is the partner. -/
theorem dev2_peer (c : Dev nD) : (⟨k0_dev2 c, k0_dev2_lt c⟩ : Dev nD) = peer c := Fin.ext ((k0_dev2_eq c).trans (chain_val c))
/-- The device of the acknowledgement is the partner. -/
theorem dev3_peer (c : Dev nD) : (⟨k0_dev3 c, k0_dev3_lt c⟩ : Dev nD) = peer c := Fin.ext ((k0_dev3_eq c).trans (chain_val c))

/-! ## The four semaphores -/

/-- The barrier semaphore, the only one of the four that is not scoped to the kernel call. -/
abbrev barS : Sem sig := (SemArray.scalar (sig.barrier 0 rfl) : Sems sig S_).sem
/-- The kernel's acknowledgement semaphore. -/
abbrev ackS : Sem sig := cc0_scoped0.sem
/-- The kernel's send semaphore. -/
abbrev sendS : DmaSem sig := cc0_scratch2.sem
/-- The kernel's receive semaphore. -/
abbrev recvS : DmaSem sig := cc0_scratch3.sem

/-- Barrier, send, receive, acknowledge: numbers 0 to 3. -/
abbrev semOf : Fin 4 → SemLoc sig := fun | 0 => .reg barS | 1 => .dma sendS | 2 => .dma recvS | 3 => .reg ackS

/-- The number of a semaphore, if it is one of the four. -/
def slotOf (s : SemLoc sig) : Option (Fin 4) :=
  if s = semOf 0 then some 0 else if s = semOf 1 then some 1 else if s = semOf 2 then some 2 else if s = semOf 3 then some 3 else none

theorem slotOf_semOf : ∀ k, slotOf (semOf k) = some k := by decide
theorem semOf_inj : Function.Injective semOf := by decide

/-- Semaphore `k` of device `c`. -/
abbrev cell (c : Dev nD) (k : Fin 4) : GSem nD τ sig := ((c : Thread nD τ), semOf k)

theorem cell_inj {c d : Dev nD} {j k : Fin 4} (h : cell c j = cell d k) : c = d ∧ j = k :=
  ⟨congrArg (fun g : GSem nD τ sig => g.1.1) h, semOf_inj (congrArg Prod.snd h)⟩

/-! ## The two buffers of the exchange -/

/-- The buffer a device sends from. -/
abbrev sndM : Memref sig .tc .vmem S512x512 .bf16 := Memref.whole cc0_scratch0
/-- The buffer in which the partner's block lands. -/
abbrev lndM : Memref sig .tc .vmem S512x512 .bf16 := Memref.whole cc0_scratch1

/-- What one copy credits: the size of a block. -/
abbrev N : ℕ := (lndM : Memref sig .tc .vmem S512x512 .bf16).view.dmaCredit
theorem N_pos : 0 < N := View.dmaCredit_pos _ (by decide)

/-- A block of the exchange. -/
abbrev Blk (F : FTy → Type) : Type := (cc0_scratch0 : Ref sig .tc).ty.Contents (Elt F)

/-- Device `c`'s send buffer holds `f`. -/
def sndPts (c : Dev nD) (f : Blk F) : sProp 𝕄 :=
  (sndM : Memref sig .tc .vmem S512x512 .bf16).view.loc (c : Thread nD τ) ↦[(sndM : Memref sig .tc .vmem S512x512 .bf16).view.set]{fullShare} f
/-- Device `c`'s landing buffer holds `f`. -/
def lndPts (c : Dev nD) (f : Blk F) : sProp 𝕄 :=
  (lndM : Memref sig .tc .vmem S512x512 .bf16).view.loc (c : Thread nD τ) ↦[(lndM : Memref sig .tc .vmem S512x512 .bf16).view.set]{fullShare} f

instance sndPts_storable (c : Dev nD) (f : Blk F) : BI.Storable (upEmb : UEmb _ 𝕄) (sndPts c f) := by unfold sndPts; infer_instance
instance lndPts_storable (c : Dev nD) (f : Blk F) : BI.Storable (upEmb : UEmb _ 𝕄) (lndPts c f) := by unfold lndPts; infer_instance

/-- The send buffer, as the plain points-to of the whole buffer. -/
theorem sndPts_eq (c : Dev nD) (f : Blk F) : sndPts c f = (((c : Thread nD τ).loc cc0_scratch0) ↦{fullShare} f : sProp 𝕄) := by
  unfold sndPts; rw [View.set_whole]
/-- The landing buffer, as the plain points-to of the whole buffer. -/
theorem lndPts_eq (c : Dev nD) (f : Blk F) : lndPts c f = (((c : Thread nD τ).loc cc0_scratch1) ↦{fullShare} f : sProp 𝕄) := by
  unfold lndPts; rw [View.set_whole]

/-- A copy of a whole send buffer over a whole landing buffer leaves exactly what was sent. -/
theorem landed (fd fs : Blk F) :
    (lndM : Memref sig .tc .vmem S512x512 .bf16).view.write (Elt F) fd ((sndM : Memref sig .tc .vmem S512x512 .bf16).view.read (Elt F) fs) Finset.univ = fs := by
  show (View.whole cc0_scratch1).write (Elt F) fd ((View.whole cc0_scratch0).read (Elt F) fs) Finset.univ = fs
  rw [View.read_whole]; exact View.write_whole_univ _ _ _

/-! ## The schedule -/

variable (x : Dev nD → Blk F)

/-- What the one payment into semaphore `k` of device `c` carries. Into the barrier: the partner's landing buffer, at whatever
    it holds, and that the partner's receive and acknowledgement semaphores are in use. Into send: the own send buffer back.
    Into receive: the own landing buffer, holding the partner's block. Into acknowledge: nothing. -/
def pay (c : Dev nD) : Fin 4 → sProp 𝕄
  | 0 => iprop((∃ f, lndPts (peer c) f) ∗ reached ER (cell (peer c) 2) 0 ∗ reached ER (cell (peer c) 3) 0)
  | 1 => sndPts c (x c)
  | 2 => lndPts c (x (peer c))
  | 3 => iprop(emp)

/-- How much it adds to the semaphore. -/
def units (k : Fin 4) : ℕ := if k = 1 ∨ k = 2 then N else 1

/-- One for a signal, a block's size for a copy. -/
theorem units_bar : units 0 = 1 := if_neg (by decide)
theorem units_send : units 1 = N := if_pos (.inl rfl)
theorem units_recv : units 2 = N := if_pos (.inr rfl)
theorem units_ack : units 3 = 1 := if_neg (by decide)

theorem units_pos (k : Fin 4) : 0 < units k := by
  unfold units; split
  · exact N_pos
  · exact Nat.one_pos

/-- One payment on each of the four semaphores of every device, in round 0; none elsewhere. -/
def Rd : Rounds.Schedule (GSem nD τ sig) Unit 𝕄 where
  duties g r := if r = 0 ∧ g.1.2 = .tc ∧ (slotOf g.2).isSome then {()} else ∅
  unitless _ := False
  amount g _ _ := (slotOf g.2).elim 1 units
  payload g _ _ := (slotOf g.2).elim iprop(emp) (pay x g.1.1)
  amount_pos g _ _ _ := by
    cases slotOf g.2 with
    | none => exact Nat.one_pos
    | some k => exact units_pos k

instance Rd_storable (g : GSem nD τ sig) (r : ℕ) (d : Unit) : BI.Storable (upEmb : UEmb _ 𝕄) ((Rd x).payload g r d) := by
  show BI.Storable upEmb ((slotOf g.2).elim iprop(emp) (pay x g.1.1))
  cases slotOf g.2 with
  | none => exact inferInstanceAs (BI.Storable upEmb (iprop(emp) : sProp 𝕄))
  | some k =>
    fin_cases k
    · show BI.Storable upEmb (iprop((∃ f, lndPts (peer g.1.1) f) ∗ reached ER (cell (peer g.1.1) 2) 0 ∗ reached ER (cell (peer g.1.1) 3) 0) : sProp 𝕄)
      infer_instance
    · show BI.Storable upEmb (sndPts g.1.1 (x g.1.1)); infer_instance
    · show BI.Storable upEmb (lndPts g.1.1 (x (peer g.1.1))); infer_instance
    · exact inferInstanceAs (BI.Storable upEmb (iprop(emp) : sProp 𝕄))

section Tables

variable (c : Dev nD) (k : Fin 4)

/-- Round 0 of each of the four has its one payment. -/
theorem duties_at : (Rd x).duties (cell c k) 0 = {()} := by
  dsimp only [Rd]; exact if_pos ⟨rfl, rfl, by rw [slotOf_semOf]; rfl⟩
theorem duty_mem : () ∈ (Rd x).duties (cell c k) 0 := by rw [duties_at]; exact Finset.mem_singleton_self _
/-- No later round has any. -/
theorem duties_later (g : GSem nD τ sig) (r : ℕ) (hr : 1 ≤ r) : (Rd x).duties g r = ∅ := by
  dsimp only [Rd]; exact if_neg fun h => by omega
theorem amount_at (u : Unit) : (Rd x).amount (cell c k) 0 u = units k := by
  dsimp only [Rd]; rw [slotOf_semOf]; rfl
theorem payload_at (u : Unit) : (Rd x).payload (cell c k) 0 u = pay x c k := by
  dsimp only [Rd]; rw [slotOf_semOf]; rfl
/-- So a wait for the whole of round 0 waits for `units k`. -/
theorem expect_at : (Rd x).expect (cell c k) 0 = units k := by
  unfold Schedule.expect Schedule.amountOf; rw [duties_at, Finset.sum_singleton, amount_at]
/-- And it yields what the one payment carried. -/
theorem rest_at : bigSep ((Rd x).duties (cell c k) 0 \ ∅) (fun u => (Rd x).payload (cell c k) 0 u) = pay x c k := by
  rw [Finset.sdiff_empty, duties_at, bigSep_singleton, payload_at]

end Tables

/-- A semaphore of which round 0 is over can be taken out of the protocol, with its counter at zero. -/
theorem close (κ : ℕ) (g : GSem nD τ sig) :
    iprop(cellInv ER (Rd x) κ g ∗ atPos ER g (0 + 1) ∅ 0) ⊢ (|={Set.univ}=> semVal g 0 : sProp 𝕄) :=
  Rounds.cell_close ER (Rd x) (Set.mem_univ κ) id (duties_later x g)

/-! ## What a device owes, and the order of the waits -/

/-- The payment that device `c` owes into semaphore `k` of its partner. -/
def due (c : Dev nD) (k : Fin 4) : CellTallies nD τ sig Unit := tallyAt (cell (peer c) k) () (units k)

/-- At the start: the acknowledgement, the arrival and the barrier, in the reverse of the order in which they are paid. -/
def O₀ (c : Dev nD) : CellTallies nD τ sig Unit := due c 3 + due c 2 + due c 0

/-- Every semaphore of a TensorCore has a level. -/
def L (g : GSem nD τ sig) : Finset Unit := if g.1.2 = .tc then {()} else ∅

/-- Barrier 1, send 0, receive 2, acknowledge 3. -/
def rank : Fin 4 → ℕ := fun | 0 => 1 | 1 => 0 | 2 => 2 | 3 => 3

/-- The level of a semaphore: its rank, 0 where it is not one of the four. -/
def lv (g : GSem nD τ sig) (_ : Unit) : ℕ := (slotOf g.2).elim 0 rank

theorem L_of_ne (g : GSem nD τ sig) (h : g.1.2 ≠ .tc) : L g = ∅ := if_neg h
theorem L_tc (c : Dev nD) (s : SemLoc sig) : L ((c : Thread nD τ), s) = {()} := if_pos rfl
theorem mem_L (c : Dev nD) (s : SemLoc sig) (u : Unit) : u ∈ L ((c : Thread nD τ), s) := by rw [L_tc]; exact Finset.mem_singleton_self _
theorem lv_cell (c : Dev nD) (k : Fin 4) (u : Unit) : lv (cell c k) u = rank k := by unfold lv; rw [slotOf_semOf]; rfl

/-- A single due is owed at its own semaphore only. -/
theorem due_pos {c : Dev nD} {k : Fin 4} {g : GSem nD τ sig} {u : Unit} (h : 0 < due c k g u) : g = cell (peer c) k := by
  unfold due at h
  rw [tallyAt_apply] at h
  by_cases e : g = cell (peer c) k ∧ u = ()
  · exact e.1
  · rw [if_neg e] at h; exact absurd h (Nat.lt_irrefl 0)

/-- A sum of tallies is positive only where one of them is. -/
theorem add_pos_cases {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

/-- What is owed at the start is owed at the partner's acknowledge, receive or barrier semaphore. -/
theorem O₀_pos {c : Dev nD} {g : GSem nD τ sig} {u : Unit} (h : 0 < O₀ c g u) : ∃ k : Fin 4, k ≠ 1 ∧ g = cell (peer c) k := by
  rcases add_pos_cases h with h | h
  · rcases add_pos_cases h with h | h
    · exact ⟨3, by decide, due_pos h⟩
    · exact ⟨2, by decide, due_pos h⟩
  · exact ⟨0, by decide, due_pos h⟩

/-- A device may wait on its semaphore `k` while all it owes is at semaphores of a higher rank. -/
theorem mayWait (c : Dev nD) (k : Fin 4) (O : CellTallies nD τ sig Unit)
    (hO : ∀ g u, 0 < O g u → ∃ j : Fin 4, rank k < rank j ∧ g = cell (peer c) j) :
    (levAts L lv : sProp 𝕄) ⊢ MayWait (c : Thread nD τ) (semOf k) () O :=
  MayOwe.of_cut (L := L) (lev := lv) (rank k)
    (fun p hp => by rw [Finset.mem_singleton.mp hp]; exact mem_L _ _ _)
    (fun g u hg => by obtain ⟨j, -, rfl⟩ := hO g u hg; exact mem_L _ _ _)
    (fun p hp => by rw [Finset.mem_singleton.mp hp]; exact le_of_eq (lv_cell c k _))
    (fun g u hg => by obtain ⟨j, hj, rfl⟩ := hO g u hg; rw [lv_cell]; exact hj)

/-- It may wait for the barrier while it owes the arrival and the acknowledgement. -/
theorem mayWait_bar (c : Dev nD) : (levAts L lv : sProp 𝕄) ⊢ MayWait (c : Thread nD τ) (semOf 0) () (due c 3 + due c 2) :=
  mayWait c 0 _ fun g u h => by
    rcases add_pos_cases h with h | h
    · exact ⟨3, by decide, due_pos h⟩
    · exact ⟨2, by decide, due_pos h⟩
/-- It may wait for the end of the reading while it owes the acknowledgement. -/
theorem mayWait_send (c : Dev nD) : (levAts L lv : sProp 𝕄) ⊢ MayWait (c : Thread nD τ) (semOf 1) () (due c 3) :=
  mayWait c 1 _ fun g u h => ⟨3, by decide, due_pos h⟩
/-- It may wait for the arrival while it owes the acknowledgement. -/
theorem mayWait_recv (c : Dev nD) : (levAts L lv : sProp 𝕄) ⊢ MayWait (c : Thread nD τ) (semOf 2) () (due c 3) :=
  mayWait c 2 _ fun g u h => ⟨3, by decide, due_pos h⟩

/-! ## The protocol's state on one device -/

/-- The invariants of all the semaphores, which every device may consult: at the names `K`. -/
def book (K : GSem nD τ sig → ℕ) : sProp 𝕄 :=
  bigSep Finset.univ fun ck : Dev nD × Fin 4 => cellInv ER (Rd x) (K (cell ck.1 ck.2)) (cell ck.1 ck.2)

instance book_persistent (K : GSem nD τ sig → ℕ) : BI.Persistent (book x K) := by unfold book; infer_instance

/-- One invariant out of the book. -/
theorem book_at (K : GSem nD τ sig → ℕ) (c : Dev nD) (k : Fin 4) : (book x K : sProp 𝕄) ⊢ cellInv ER (Rd x) (K (cell c k)) (cell c k) :=
  bigSep_elim (Finset.mem_univ (c, k))

/-- The payments that device `c` will make: to the partner's barrier, receive and acknowledge semaphores, and to its own send. -/
def dues (c : Dev nD) : sProp 𝕄 :=
  iprop(dutyTok ER (cell (peer c) 0) 0 () ∗ dutyTok ER (cell (peer c) 2) 0 () ∗ dutyTok ER (cell (peer c) 3) 0 () ∗ dutyTok ER (cell c 1) 0 ())

/-- What it may wait with. -/
def creds (c : Dev nD) : sProp 𝕄 :=
  iprop(cred (tallyAt (cell c 0) () (units 0)) ∗ cred (tallyAt (cell c 2) () (units 2)) ∗ cred (tallyAt (cell c 3) () (units 3)))

/-- From the launch to the kernel call: the barrier is in use, the three scoped semaphores are still to be put in use. -/
def ghost (K : GSem nD τ sig → ℕ) (c : Dev nD) : sProp 𝕄 :=
  iprop(book x K ∗ atPos ER (cell c 0) 0 ∅ 0 ∗ reached ER (cell (peer c) 0) 0
    ∗ (openTok ER (cell c 1) ∗ openTok ER (cell c 2) ∗ openTok ER (cell c 3)) ∗ dues c)

/-- Inside the kernel call: all four are in use. -/
def opened (K : GSem nD τ sig → ℕ) (c : Dev nD) : sProp 𝕄 :=
  iprop(book x K ∗ (atPos ER (cell c 0) 0 ∅ 0 ∗ atPos ER (cell c 1) 0 ∅ 0 ∗ atPos ER (cell c 2) 0 ∅ 0 ∗ atPos ER (cell c 3) 0 ∅ 0)
    ∗ (reached ER (cell (peer c) 0) 0 ∗ reached ER (cell c 1) 0 ∗ reached ER (cell c 2) 0 ∗ reached ER (cell c 3) 0) ∗ dues c)

end Cert.KernelIdeal.Exch

end
-- ==== Proof.Body.lean ====
/-
  THE KERNEL BODY on one device, run through the protocol of Proto.lean.

  With its staged rows `a0` and local indices `a1`, its two exchange buffers at any contents, the four semaphores in use and the
  credit to wait with, the body ends with: the four semaphores taken out of the protocol, each counter at zero; nothing owed;
  the staged inputs as they were; and the staged result at the sum of the device's own masked block and its partner's.
-/
module

public import proofs.«01_k».proof.Proof.Proto

@[expose] public section

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (x : Dev nD → Blk F)

/-! ## Whole-buffer accesses -/

/-- The rectangle of a whole 512 × 512 buffer. -/
abbrev rAll : Rect S512x512 := Rect.unit (s := S512x512) ![0, 0] S512x512.size inb_S512x512_S512x512_0_0
/-- The rectangle of the whole column of local indices. -/
abbrev rCol : Rect S512x1 := Rect.unit (s := S512x1) ![0, 0] S512x1.size inb_S512x1_S512x1_0_0

theorem off_zero : (![0, 0] : Fin 2 → Nat) = fun _ => 0 := funext fun a => by fin_cases a <;> rfl

theorem read_rows (f : (cc0_stg0_0 : Ref sig .tc).ty.Contents (Elt F)) :
    (Memref.whole cc0_stg0_0 : Memref sig .tc .vmem S512x512 .bf16).view.readAt (Elt F) rAll.toLoadRect f = f :=
  Memref.readAt_unit_zero (Elt F) cc0_stg0_0 off_zero _ f
theorem read_col (f : (cc0_stg1_0 : Ref sig .tc).ty.Contents (Elt F)) :
    (Memref.whole cc0_stg1_0 : Memref sig .tc .vmem S512x1 .i32).view.readAt (Elt F) rCol.toLoadRect f = f :=
  Memref.readAt_unit_zero (Elt F) cc0_stg1_0 off_zero _ f
theorem read_snd (f : Blk F) : (sndM : Memref sig .tc .vmem S512x512 .bf16).view.readAt (Elt F) rAll.toLoadRect f = f :=
  Memref.readAt_unit_zero (Elt F) cc0_scratch0 off_zero _ f
theorem read_lnd (f : Blk F) : (lndM : Memref sig .tc .vmem S512x512 .bf16).view.readAt (Elt F) rAll.toLoadRect f = f :=
  Memref.readAt_unit_zero (Elt F) cc0_scratch1 off_zero _ f
theorem write_snd (f w : Blk F) : ((sndM : Memref sig .tc .vmem S512x512 .bf16).access rAll : View sig .tc _ _ _).write (Elt F) f w Finset.univ = w :=
  Memref.write_access_unit_zero_univ (Elt F) cc0_scratch0 off_zero _ f w
theorem write_out (f w : (cc0_stg2_0 : Ref sig .tc).ty.Contents (Elt F)) :
    ((Memref.whole cc0_stg2_0 : Memref sig .tc .vmem S512x512 .f32).access rAll : View sig .tc _ _ _).write (Elt F) f w Finset.univ = w :=
  Memref.write_access_unit_zero_univ (Elt F) cc0_stg2_0 off_zero _ f w

/-! ## The single steps that talk -/

variable (K : GSem nD τ sig → ℕ)

/-- THE COPY, towards the device `n` that the kernel's chain names: it pays the arrival into the partner's receive semaphore and
    the end of the reading into the own send semaphore, whose credit it yields. -/
theorem wp_copy (c n : Dev nD) (hn : n = peer c) {hsc : (lndM : Memref sig (Dev.tc n : Thread nD τ).2.kind .vmem S512x512 .bf16).view.ref.isScScratch = false}
    {hsrc : (sndM : Memref sig .tc .vmem S512x512 .bf16).view.WordExact} {hdst : (lndM : Memref sig .tc .vmem S512x512 .bf16).view.WordExact}
    {hsem : DmaTarget.Typed .vmem (.dma recvS) (.remote (Dev.tc n : Thread nD τ) (lndM : Memref sig .tc .vmem S512x512 .bf16) (.dma sendS) hsc)}
    {α : Type} {Q : α → sProp 𝕄} {k : PUnit → Prog (TpuEff nD τ sig (Elt F) Λ₀ .tc) α} (fn : Blk F) (W : Waits sig Unit) :
    iprop(cellInv ER (Rd x) (K (cell c 1)) (cell c 1) ∗ cellInv ER (Rd x) (K (cell (peer c) 2)) (cell (peer c) 2)
        ∗ sndPts c (x c) ∗ lndPts (peer c) fn ∗ owes (c : Thread nD τ) (due c 3 + due c 2) W
        ∗ dutyTok ER (cell c 1) 0 () ∗ reached ER (cell c 1) 0 ∗ dutyTok ER (cell (peer c) 2) 0 () ∗ reached ER (cell (peer c) 2) 0)
      ⊢ iprop(((cred (tallyAt (cell c 1) () N) ∗ owes (c : Thread nD τ) (due c 3) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndM (.remote (Dev.tc n : Thread nD τ) lndM (.dma sendS) hsc) (.dma recvS) hsrc hdst hsem) k) Q) := by
  subst hn
  have h₁ : (Rd x).payload ((c : Thread nD τ), .dma sendS) 0 () = sndPts c (x c) := payload_at x c 1 ()
  have h₂ : (Rd x).payload ((peer c : Thread nD τ), .dma recvS) 0 () = lndPts (peer c) (x c) := by
    rw [show (Rd x).payload ((peer c : Thread nD τ), .dma recvS) 0 () = lndPts (peer c) (x (peer (peer c))) from payload_at x (peer c) 2 (), peer_peer]
  have a₁ : (Rd x).amount ((c : Thread nD τ), .dma sendS) 0 () = N := (amount_at x c 1 ()).trans units_send
  have a₂ : (Rd x).amount ((peer c : Thread nD τ), .dma recvS) 0 () = N := (amount_at x (peer c) 2 ()).trans units_recv
  have d₁ : () ∈ (Rd x).duties ((c : Thread nD τ), .dma sendS) 0 := duty_mem x c 1
  have d₂ : () ∈ (Rd x).duties ((peer c : Thread nD τ), .dma recvS) 0 := duty_mem x (peer c) 2
  have e : due c 3 + due c 2 = due c 3 + tallyAt ((peer c : Thread nD τ), .dma recvS) () N := by
    rw [show due c 2 = tallyAt ((peer c : Thread nD τ), .dma recvS) () (units 2) from rfl, units_recv]
  rw [e]
  unfold sndPts lndPts at *
  exact Rounds.wp_send_pointsTo 𝒱₀ ER (Rd x) (c : Thread nD τ) none (c' := (peer c : Thread nD τ)) (src := sndM) (dst := lndM)
    (sS := .dma sendS) (sem := .dma recvS) (q := fullShare) (fs := x c) (κ₁ := K (cell c 1)) (κ₂ := K (cell (peer c) 2))
    (r₁ := 0) (r₂ := 0) (d₁ := ()) (d₂ := ()) (fd := fn) d₁ d₂ () () N rfl a₁ a₂ (due c 3) rfl (W := W)
    (by rw [h₁]) (by rw [h₂, landed])

/-- A SIGNAL into semaphore `k` of the partner (a regular one, `s`), with what that payment carries. -/
theorem wp_raise (c n : Dev nD) (hn : n = peer c) (s : Sem sig) (k : Fin 4) (hs : semOf k = .reg s) (hu : units k = (1#32 : BitVec 32).toNat)
    {α : Type} {Q : α → sProp 𝕄} {kont : PUnit → Prog (TpuEff nD τ sig (Elt F) Λ₀ .tc) α}
    (O O' : CellTallies nD τ sig Unit) (hO : O' = O + due c k) (W : Waits sig Unit) :
    iprop(cellInv ER (Rd x) (K (cell (peer c) k)) (cell (peer c) k) ∗ owes (c : Thread nD τ) O' W ∗ dutyTok ER (cell (peer c) k) 0 ()
        ∗ pay x (peer c) k ∗ reached ER (cell (peer c) k) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (Dev.tc n : Thread nD τ) s (1#32 : BitVec 32).toNat) kont) Q) := by
  subst hn
  rw [← payload_at x (peer c) k ()]
  unfold due at hO
  have hd := duty_mem x (peer c) k
  have ha := (amount_at x (peer c) k ()).trans hu
  unfold cell at hO hd ha ⊢
  rw [hs] at hO hd ha ⊢
  exact Rounds.wp_signal 𝒱₀ ER (Rd x) (c : Thread nD τ) none (dst := (peer c : Thread nD τ)) hd ha () O (by rw [hO, hu])

/-! ## The body -/

/-- A staged buffer at given contents. -/
abbrev stg (c : Dev nD) (b : Ref sig .tc) (f : b.ty.Contents (Elt F)) : sProp 𝕄 := ((c : Thread nD τ).loc b) ↦{fullShare} f

/-- What the body starts from. -/
def bodyPre (c : Dev nD) (a0 : (cc0_stg0_0 : Ref sig .tc).ty.Contents (Elt F)) (a1 : (cc0_stg1_0 : Ref sig .tc).ty.Contents (Elt F))
    (a2 : (cc0_stg2_0 : Ref sig .tc).ty.Contents (Elt F)) (W : Waits sig Unit) : sProp 𝕄 :=
  iprop(opened x K c ∗ creds c ∗ levAts L lv ∗ (∃ f, sndPts c f) ∗ (∃ f, lndPts c f) ∗ owes (c : Thread nD τ) (O₀ c) W
    ∗ stg c cc0_stg0_0 a0 ∗ stg c cc0_stg1_0 a1 ∗ stg c cc0_stg2_0 a2)

/-- The four semaphores back in hand, each at zero. -/
def zeros (c : Dev nD) : sProp 𝕄 :=
  iprop(semVal (cell c 0) 0 ∗ semVal (cell c 1) 0 ∗ semVal (cell c 2) 0 ∗ semVal (cell c 3) 0)

/-- What the body ends with. -/
def bodyPost (c : Dev nD) (a0 : (cc0_stg0_0 : Ref sig .tc).ty.Contents (Elt F)) (a1 : (cc0_stg1_0 : Ref sig .tc).ty.Contents (Elt F)) : sProp 𝕄 :=
  iprop(zeros c ∗ (∃ f, sndPts c f) ∗ (∃ f, lndPts c f) ∗ (∃ W, owes (c : Thread nD τ) (0 : CellTallies nD τ sig Unit) W)
    ∗ stg c cc0_stg0_0 a0 ∗ stg c cc0_stg1_0 a1 ∗ stg c cc0_stg2_0 (k0_pay1 (x c) (x (peer c))))

set_option maxHeartbeats 1600000 in
/-- THE BODY'S RUN: provided the block that `c` sends is its masked block `k0_pay2 a1 a0`. -/
theorem body_run (c : Dev nD) (a0 : (cc0_stg0_0 : Ref sig .tc).ty.Contents (Elt F)) (a1 : (cc0_stg1_0 : Ref sig .tc).ty.Contents (Elt F))
    (a2 : (cc0_stg2_0 : Ref sig .tc).ty.Contents (Elt F)) (W : Waits sig Unit) (hx : k0_pay2 a1 a0 = x c) (Kt : PUnit → sProp 𝕄) :
    iprop(bodyPre x K c a0 a1 a2 W ∗ (bodyPost x c a0 a1 -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre opened dues creds
  iintro ⟨⟨⟨#HB, ⟨HaB, HaS, HaV, HaK⟩, ⟨#HrBP, #HrS, #HrV, #HrK⟩, ⟨HtB, HtV, HtK, HtS⟩⟩, ⟨HcB, HcV, HcK⟩, #Hlev, ⟨%f0, Hsnd⟩, Hlnd, HO, Hx0, Hx1, Hx2⟩, Hk⟩
  -- the indices, the rows; the masked block into the send buffer
  iapply (wp_load 𝒱₀ (c : Thread nD τ) none Set.univ (m := Memref.whole cc0_stg1_0) (Finset.subset_univ _)) $$ Hx1; iintro Hx1
  rw [read_col]
  iapply (wp_load 𝒱₀ (c : Thread nD τ) none Set.univ (m := Memref.whole cc0_stg0_0) (Finset.subset_univ _)) $$ Hx0; iintro Hx0
  rw [read_rows]
  ihave Hsnd := (Entails.of_eq (sndPts_eq c f0)) $$ Hsnd
  iapply (wp_load 𝒱₀ (c : Thread nD τ) none Set.univ (m := sndM) (Finset.subset_univ _)) $$ Hsnd; iintro Hsnd
  iapply (wp_store 𝒱₀ (c : Thread nD τ) none Set.univ (m := sndM) (r := rAll) (Mk := Finset.univ) (Finset.subset_univ _)) $$ Hsnd; iintro Hsnd
  rw [write_snd, hx]
  ihave Hsnd := (Entails.of_eq (sndPts_eq c (x c)).symm) $$ Hsnd
  -- the barrier signal
  iapply (wp_raise x K c _ (dev1_peer c) barS 0 rfl (units_bar.trans (by decide)) (due c 3 + due c 2) (O₀ c) rfl W) $$ [HO HtB Hlnd]
  · isplitr; · iapply (book_at x K (peer c) 0); iexact HB
    isplitl [HO]; · iexact HO
    isplitl [HtB]; · iexact HtB
    isplitl [Hlnd]
    · unfold pay; rw [peer_peer]
      isplitl [Hlnd]; · iexact Hlnd
      isplitr; · iexact HrV
      iexact HrK
    iexact HrBP
  iintro HO
  -- the barrier wait
  iapply (Rounds.wp_wait_rest_token 𝒱₀ ER (Rd x) (c : Thread nD τ) none (κ := K (cell c 0))
      (wpE_semWait_eq 𝒱₀ (c : Thread nD τ) none Set.univ) (Set.mem_univ _) () (O := due c 3 + due c 2) (W := W) (R := 0) (m := 0) (T := ∅)
      (by rw [show (Rd x).expect ((c : Thread nD τ), .reg barS) 0 = units 0 from expect_at x c 0, units_bar]; decide)) $$ [HcB HO HaB]
  · isplitr; · iapply (book_at x K c 0); iexact HB
    isplitl [HcB]; · rw [units_bar]; iexact HcB
    isplitl [HO]; · iexact HO
    isplitr; · iapply (mayWait_bar c); iexact Hlev
    iexact HaB
  iintro ⟨HO, HaB, -, Hp⟩
  ihave Hp := (Entails.of_eq (rest_at x c 0)) $$ Hp
  unfold pay
  icases Hp with ⟨⟨%fn, HlndP⟩, #HrVP, #HrKP⟩
  -- the copy
  iapply (wp_copy x K c _ (dev2_peer c) fn _) $$ [Hsnd HlndP HO HtS HtV]
  · isplitr; · iapply (book_at x K c 1); iexact HB
    isplitr; · iapply (book_at x K (peer c) 2); iexact HB
    isplitl [Hsnd]; · iexact Hsnd
    isplitl [HlndP]; · iexact HlndP
    isplitl [HO]; · iexact HO
    isplitl [HtS]; · iexact HtS
    isplitr; · iexact HrS
    isplitl [HtV]; · iexact HtV
    iexact HrVP
  iintro ⟨HcS, HO⟩
  -- the end of the reading
  iapply (Rounds.wp_wait_rest_token 𝒱₀ ER (Rd x) (c : Thread nD τ) none (κ := K (cell c 1))
      (wpE_waitDma2_eq 𝒱₀ (c : Thread nD τ) none Set.univ) (Set.mem_univ _) () (O := due c 3) (R := 0) (m := 0) (T := ∅)
      (by rw [show (Rd x).expect ((c : Thread nD τ), .dma sendS) 0 = units 1 from expect_at x c 1, units_send, Nat.zero_add])) $$ [HcS HO HaS]
  · isplitr; · iapply (book_at x K c 1); iexact HB
    isplitl [HcS]; · iexact HcS
    isplitl [HO]; · iexact HO
    isplitr; · iapply (mayWait_send c); iexact Hlev
    iexact HaS
  iintro ⟨HO, HaS, -, Hp⟩
  ihave Hsnd := (Entails.of_eq ((rest_at x c 1).trans (show pay x c 1 = sndPts c (x c) from rfl))) $$ Hp
  -- the arrival
  iapply (Rounds.wp_wait_rest_token 𝒱₀ ER (Rd x) (c : Thread nD τ) none (κ := K (cell c 2))
      (wpE_waitDma2_eq 𝒱₀ (c : Thread nD τ) none Set.univ) (Set.mem_univ _) () (O := due c 3) (R := 0) (m := 0) (T := ∅)
      (by rw [show (Rd x).expect ((c : Thread nD τ), .dma recvS) 0 = units 2 from expect_at x c 2, units_recv, Nat.zero_add])) $$ [HcV HO HaV]
  · isplitr; · iapply (book_at x K c 2); iexact HB
    isplitl [HcV]; · rw [units_recv]; iexact HcV
    isplitl [HO]; · iexact HO
    isplitr; · iapply (mayWait_recv c); iexact Hlev
    iexact HaV
  iintro ⟨HO, HaV, -, Hp⟩
  ihave Hlnd := (Entails.of_eq ((rest_at x c 2).trans (show pay x c 2 = lndPts c (x (peer c)) from rfl))) $$ Hp
  -- the acknowledgement, both ways
  iapply (wp_raise x K c _ (dev3_peer c) ackS 3 rfl (units_ack.trans (by decide)) 0 (due c 3) (zero_add _).symm _) $$ [HO HtK]
  · isplitr; · iapply (book_at x K (peer c) 3); iexact HB
    isplitl [HO]; · iexact HO
    isplitl [HtK]; · iexact HtK
    isplitr; · unfold pay; iempintro
    iexact HrKP
  iintro HO
  iapply (Rounds.wp_wait_rest_token 𝒱₀ ER (Rd x) (c : Thread nD τ) none (κ := K (cell c 3))
      (wpE_semWait_eq 𝒱₀ (c : Thread nD τ) none Set.univ) (Set.mem_univ _) () (O := 0) (R := 0) (m := 0) (T := ∅)
      (by rw [show (Rd x).expect ((c : Thread nD τ), .reg ackS) 0 = units 3 from expect_at x c 3, units_ack]; decide)) $$ [HcK HO HaK]
  · isplitr; · iapply (book_at x K c 3); iexact HB
    isplitl [HcK]; · rw [units_ack]; iexact HcK
    isplitl [HO]; · iexact HO
    isplitr; · rw [MayWait_zero]; iempintro
    iexact HaK
  iintro ⟨HO, HaK, -, -⟩
  -- the four semaphores out of the protocol
  imod (close x (K (cell c 0)) (cell c 0)) $$ [HaB] with HzB
  · isplitr; · iapply (book_at x K c 0); iexact HB
    iexact HaB
  imod (close x (K (cell c 1)) (cell c 1)) $$ [HaS] with HzS
  · isplitr; · iapply (book_at x K c 1); iexact HB
    iexact HaS
  imod (close x (K (cell c 2)) (cell c 2)) $$ [HaV] with HzV
  · isplitr; · iapply (book_at x K c 2); iexact HB
    iexact HaV
  imod (close x (K (cell c 3)) (cell c 3)) $$ [HaK] with HzK
  · isplitr; · iapply (book_at x K c 3); iexact HB
    iexact HaK
  -- the sum
  ihave Hsnd := (Entails.of_eq (sndPts_eq c (x c))) $$ Hsnd
  ihave Hlnd := (Entails.of_eq (lndPts_eq c (x (peer c)))) $$ Hlnd
  iapply (wp_load 𝒱₀ (c : Thread nD τ) none Set.univ (m := sndM) (Finset.subset_univ _)) $$ Hsnd; iintro Hsnd
  rw [read_snd]
  iapply (wp_load 𝒱₀ (c : Thread nD τ) none Set.univ (m := lndM) (Finset.subset_univ _)) $$ Hlnd; iintro Hlnd
  rw [read_lnd]
  iapply (wp_load 𝒱₀ (c : Thread nD τ) none Set.univ (m := Memref.whole cc0_stg2_0) (Finset.subset_univ _)) $$ Hx2; iintro Hx2
  iapply (wp_store 𝒱₀ (c : Thread nD τ) none Set.univ (m := Memref.whole cc0_stg2_0) (r := rAll) (Mk := Finset.univ) (Finset.subset_univ _)) $$ Hx2; iintro Hx2
  rw [write_out, wp_ret]; imodintro
  iapply Hk
  unfold bodyPost zeros
  isplitl [HzB HzS HzV HzK]
  · isplitl [HzB]; · iexact HzB
    isplitl [HzS]; · iexact HzS
    isplitl [HzV] <;> iassumption
  isplitl [Hsnd]; · iexists (x c); iapply (Entails.of_eq (sndPts_eq c (x c)).symm); iexact Hsnd
  isplitl [Hlnd]; · iexists (x (peer c)); iapply (Entails.of_eq (lndPts_eq c (x (peer c))).symm); iexact Hlnd
  isplitl [HO]; · iexists _; iexact HO
  isplitl [Hx0]; · iexact Hx0
  isplitl [Hx1]; · iexact Hx1
  iexact Hx2

end Cert.KernelIdeal.Exch

end
-- ==== Proof.Region.lean ====
/-
  THE KERNEL CALL as a segment of the host program.

  It is entered with the host's arrays as the host operations left them (`V3 m c`), and left with the same arrays but for the
  result, which holds the sum of the device's masked block and its partner's (`V4 m (outs m) c`).
-/
module

public import proofs.«01_k».proof.Proof.Body
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.ValueKit

@[expose] public section

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the blocks are -/

/-- The rows that the host gathers on device `c`. -/
def rows (c : Dev nD) : (cc0_stg0_0 : Ref sig .tc).ty.Contents (Elt F) := V3 m c main_v15
/-- The local indices, as a column. -/
def locs (c : Dev nD) : (cc0_stg1_0 : Ref sig .tc).ty.Contents (Elt F) := V3 m c main_v16
/-- The masked block that device `c` contributes: its rows where its part of the table has the index, zero elsewhere. -/
def masked (c : Dev nD) : Blk F := k0_pay2 (locs m c) (rows m c)
/-- The result on device `c`: its own block plus its partner's. -/
def summed (c : Dev nD) : (cc0_stg2_0 : Ref sig .tc).ty.Contents (Elt F) := k0_pay1 (masked m c) (masked m (peer c))

/-- What the kernel call leaves in its result array. -/
def outs : Outs (F := F) := fun _ r c =>
  if h : r = main_v17 then (h ▸ (summed m c : (main_v17 : Ref sig .tc).ty.Contents (Elt F)) : r.ty.Contents (Elt F)) else V3 m c r

theorem outs_v17 (c : Dev nD) : outs m 4 main_v17 c = summed m c := by unfold outs; rw [dif_pos rfl]

/-- After the call the result array holds the sum. -/
theorem V4_v17 (c : Dev nD) : V4 m (outs m) c main_v17 = summed m c := by
  show Function.update (V3 m c) _ (outs m 4 main_v17 c) _ = _
  rw [Function.update_self, outs_v17]

/-! ## Each window's one block is its whole array -/

theorem blk_rows (t : Fin grid0.N) (f : (main_v15 : Ref sig .tc).ty.Contents (Elt F)) : (win0_0.blk t).view.read (Elt F) f = f := by
  obtain rfl := fin_N0 t
  exact Memref.read_access_unit_zero (Elt F) main_v15 (by funext a; fin_cases a <;> rfl) _ f
theorem blk_locs (t : Fin grid0.N) (f : (main_v16 : Ref sig .tc).ty.Contents (Elt F)) : (win0_1.blk t).view.read (Elt F) f = f := by
  obtain rfl := fin_N0 t
  exact Memref.read_access_unit_zero (Elt F) main_v16 (by funext a; fin_cases a <;> rfl) _ f
theorem blk_out (t : Fin grid0.N) (f : (main_v17 : Ref sig .tc).ty.Contents (Elt F)) : (win0_2.blk t).view.read (Elt F) f = f := by
  obtain rfl := fin_N0 t
  exact Memref.read_access_unit_zero (Elt F) main_v17 (by funext a; fin_cases a <;> rfl) _ f

/-! ## The proof data of the call's one point -/

/-- What comes into the call beside the buffers: the protocol opened, the credit, the levels. -/
def comesIn (c : Dev nD) : sProp 𝕄 := iprop((∃ K, opened (masked m) K c) ∗ creds c ∗ levAts L lv)

/-- The two exchange buffers at any contents, and the generator's register. -/
def scratch (c : Dev nD) : sProp 𝕄 := iprop((∃ f, sndPts c f) ∗ (∃ f, lndPts c f) ∗ ∃ r, prngReg c r)

/-- The arrays at what the host left; the staged inputs unchanged by the body, the staged result at the sum; the dues `O₀` before
    the point and none after it. -/
def dat (c : Dev nD) : Dat τ (Elt F) Unit ℕ UU ℕ cfg0 c where
  A w := V3 m c (Pipeline.arrRef spec0 w)
  after w _ := match w with
    | ⟨0, _⟩ => rows m c
    | ⟨1, _⟩ => locs m c
    | ⟨2, _⟩ => summed m c
  Φ t := if t.val = 0 then iprop(comesIn m c ∗ scratch c) else iprop(zeros c ∗ scratch c)
  q _ := fullShare
  owed t := if t.val = 0 then O₀ c else 0

/-- The same, as the family over the program's one call. -/
def dats : (p : Fin 1) → (c : Dev nD) → Dat τ (Elt F) Unit ℕ UU ℕ (cfgs p) c
  | 0 => dat m
  | ⟨_ + 1, h⟩ => absurd h (Nat.not_lt.2 (Nat.le_add_left _ _))

theorem owed_first (c : Dev nD) : (dat m c).owed t0_0.castSucc = O₀ c := by
  show (if (0 : ℕ) = 0 then O₀ c else 0) = _
  exact if_pos rfl
theorem owed_last (c : Dev nD) : (dat m c).owed t0_0.succ = 0 := by
  show (if (0 + 1 : ℕ) = 0 then O₀ c else 0) = _
  exact if_neg (by decide)
theorem phi_first (c : Dev nD) : (dat m c).Φ t0_0.castSucc = iprop(comesIn m c ∗ scratch c) := by
  show (if (0 : ℕ) = 0 then iprop(comesIn m c ∗ scratch c) else iprop(zeros c ∗ scratch c)) = _
  exact if_pos rfl
theorem phi_last (c : Dev nD) : (dat m c).Φ t0_0.succ = iprop(zeros c ∗ scratch c) := by
  show (if (0 + 1 : ℕ) = 0 then iprop(comesIn m c ∗ scratch c) else iprop(zeros c ∗ scratch c)) = _
  exact if_neg (by decide)

theorem before_rows (c : Dev nD) (d) : (dat m c).before (0 : Fin 3) t0_0 d = rows m c := by
  rw [Dat.before_fetched _ _ _ (fetch0_0 t0_0)]
  show (win0_0.blk t0_0).view.read (Elt F) (V3 m c main_v15 : (main_v15 : Ref sig .tc).ty.Contents (Elt F)) = _
  rw [blk_rows]; rfl
theorem before_locs (c : Dev nD) (d) : (dat m c).before (1 : Fin 3) t0_0 d = locs m c := by
  rw [Dat.before_fetched _ _ _ (fetch0_1 t0_0)]
  show (win0_1.blk t0_0).view.read (Elt F) (V3 m c main_v16 : (main_v16 : Ref sig .tc).ty.Contents (Elt F)) = _
  rw [blk_locs]; rfl

/-- A whole buffer owned at `X` is its points-to at `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ stg c b f) := by
  unfold owns; simp only [Memref.view_whole, View.read_whole, View.set_whole]

/-- THE BODY OBLIGATION of the call's one point. -/
theorem body_obligation (c : Dev nD) : BodyObligation (dat m c) (defs₀ (F := F)) 𝒱₀ () Set.univ := fun t => by
  obtain rfl := fin_N0 t
  rw [bigSep_W0, bigSep_W0]
  show iprop((dat m c).Φ t0_0.castSucc ∗ (dat m c).owesAt () t0_0.castSucc
      ∗ (∃ d, owns (c : Thread nD τ) (Memref.whole cc0_stg0_0) fullShare ((dat m c).before (0 : Fin 3) t0_0 d))
      ∗ (∃ d, owns (c : Thread nD τ) (Memref.whole cc0_stg1_0) fullShare ((dat m c).before (1 : Fin 3) t0_0 d))
      ∗ (∃ d, owns (c : Thread nD τ) (Memref.whole cc0_stg2_0) fullShare ((dat m c).before (2 : Fin 3) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3 cc0_scoped0)
      (fun _ => iprop((dat m c).Φ t0_0.succ ∗ (dat m c).owesAt () t0_0.succ
        ∗ owns (c : Thread nD τ) (Memref.whole cc0_stg0_0) fullShare (rows m c)
        ∗ owns (c : Thread nD τ) (Memref.whole cc0_stg1_0) fullShare (locs m c)
        ∗ owns (c : Thread nD τ) (Memref.whole cc0_stg2_0) fullShare (summed m c)))
  simp only [owns_whole]
  rw [phi_first, phi_last]
  unfold comesIn scratch Dat.owesAt Pipeline.owesWithin Dat.bound
  rw [owed_first, owed_last]
  iintro ⟨⟨⟨⟨%K, Hop⟩, Hcr, Hlev⟩, Hsnd, Hlnd, Hreg⟩, ⟨%W, -, HO⟩, ⟨%d0, %f0, %h0, Hx0⟩, ⟨%d1, %f1, %h1, Hx1⟩, ⟨%d2, %f2, -, Hx2⟩⟩
  rw [before_rows] at h0; rw [before_locs] at h1
  subst h0; subst h1
  iapply (body_run (masked m) K c (rows m c) (locs m c) f2 W rfl _)
  unfold bodyPre
  isplitr [Hreg]
  · isplitl [Hop]; · iexact Hop
    isplitl [Hcr]; · iexact Hcr
    isplitl [Hlev]; · iexact Hlev
    isplitl [Hsnd]; · iexact Hsnd
    isplitl [Hlnd]; · iexact Hlnd
    isplitl [HO]; · iexact HO
    isplitl [Hx0]; · iexact Hx0
    isplitl [Hx1]; · iexact Hx1
    iexact Hx2
  unfold bodyPost
  iintro ⟨Hz, Hsnd, Hlnd, ⟨%W', HO⟩, Hx0, Hx1, Hx2⟩
  isplitl [Hz Hsnd Hlnd Hreg]
  · isplitl [Hz]; · iexact Hz
    isplitl [Hsnd]; · iexact Hsnd
    isplitl [Hlnd]; · iexact Hlnd
    iexact Hreg
  isplitl [HO]
  · iexists W'
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  iexists _; isplitr; · (ipureintro; rfl)
  iexact Hx2

/-! ## What the arrays hold before and after -/

theorem arr_before (c : Dev nD) : ∀ w : Fin 3, (dat m c).arrAt w 0 = V3 m c (Proc.devRef .tc (Pipeline.arrRef spec0 w))
  | 0 => rfl
  | 1 => rfl
  | 2 => rfl
  | ⟨_ + 3, h⟩ => absurd h (Nat.not_lt.2 (Nat.le_add_left _ _))

/-- The result array after the call: its one block is all of it, so it holds what the body left staged. -/
theorem out_after (c : Dev nD) : (dat m c).arrAt (2 : Fin 3) cfg0.N = summed m c := by
  rw [show (cfg0.N : ℕ) = 1 from N_0]
  refine (dat m c).arrAt_eq_of_after_last 2 t0_0 (by decide +kernel) _ fun j => ?_
  blk_simp
  rfl

theorem arr_after (c : Dev nD) : ∀ w : Fin 3, (dat m c).arrAt w cfg0.N = V4 m (outs m) c (Proc.devRef .tc (Pipeline.arrRef spec0 w))
  | 0 => ((dat m c).arrAt_in 0 rfl _).trans (V4_of m (outs m) c main_v15 (by decide)).symm
  | 1 => ((dat m c).arrAt_in 1 rfl _).trans (V4_of m (outs m) c main_v16 (by decide)).symm
  | 2 => (out_after m c).trans (V4_v17 m c).symm
  | ⟨_ + 3, h⟩ => absurd h (Nat.not_lt.2 (Nat.le_add_left _ _))

/-! ## Entering and leaving the call -/

/-- The call's own semaphores, in the order send, receive, acknowledge. -/
abbrev osem : Fin 3 → SemLoc sig := fun | 0 => semOf 1 | 1 => semOf 2 | 2 => semOf 3

theorem ownSems_eq (c : Dev nD) :
    (Pipeline.ownSems0 osem c : sProp 𝕄) = iprop(semVal (cell c 1) 0 ∗ semVal (cell c 2) 0 ∗ semVal (cell c 3) 0) := by
  unfold Pipeline.ownSems0
  rw [bigSep_univ_eq_bigSepL ([0, 1, 2] : List (Fin 3)) (by decide) (by decide)]
  rfl

/-- What the launch keeps for the call. -/
def kept (c : Dev nD) : sProp 𝕄 := iprop((∃ K, ghost (masked m) K c) ∗ creds c)

/-- At the call's entry the three scoped semaphores are put in use. -/
theorem opening (c : Dev nD) : iprop(kept m c ∗ Pipeline.ownSems0 osem c ∗ levAts L lv) ⊢ (|={Set.univ}=> comesIn m c : sProp 𝕄) := by
  rw [ownSems_eq]
  unfold kept comesIn ghost opened
  iintro ⟨⟨⟨%K, #HB, Hat, #HrP, ⟨Ho1, Ho2, Ho3⟩, Hd⟩, Hcr⟩, ⟨Hs1, Hs2, Hs3⟩, #Hlev⟩
  imod (Rounds.cell_open ER (Rd (masked m)) (g := cell c 1) (Set.mem_univ (K (cell c 1)))) $$ [Ho1 Hs1] with ⟨Ha1, #Hr1⟩
  · isplitr; · iapply (book_at (masked m) K c 1); iexact HB
    isplitl [Ho1] <;> iassumption
  imod (Rounds.cell_open ER (Rd (masked m)) (g := cell c 2) (Set.mem_univ (K (cell c 2)))) $$ [Ho2 Hs2] with ⟨Ha2, #Hr2⟩
  · isplitr; · iapply (book_at (masked m) K c 2); iexact HB
    isplitl [Ho2] <;> iassumption
  imod (Rounds.cell_open ER (Rd (masked m)) (g := cell c 3) (Set.mem_univ (K (cell c 3)))) $$ [Ho3 Hs3] with ⟨Ha3, #Hr3⟩
  · isplitr; · iapply (book_at (masked m) K c 3); iexact HB
    isplitl [Ho3] <;> iassumption
  imodintro
  isplitl [Hat Ha1 Ha2 Ha3 Hd]
  · iexists K
    isplitr; · iexact HB
    isplitl [Hat Ha1 Ha2 Ha3]
    · isplitl [Hat]; · iexact Hat
      isplitl [Ha1]; · iexact Ha1
      isplitl [Ha2]; · iexact Ha2
      iexact Ha3
    isplitr
    · isplitr; · iexact HrP
      isplitr; · iexact Hr1
      isplitr; · iexact Hr2
      iexact Hr3
    iexact Hd
  isplitl [Hcr]; · iexact Hcr
  iexact Hlev

theorem scratch_eq (c : Dev nD) : (Pipeline.scopedRest spec0 c : sProp 𝕄) = iprop((∃ f, sndPts c f) ∗ (∃ f, lndPts c f)) := by
  rw [scopedRest0_eq]
  simp only [sndPts_eq, lndPts_eq]
  rfl

theorem entering (c : Dev nD) : iprop(Pipeline.scopedRest spec0 c ∗ (∃ r, prngReg c r) ∗ StableHlo.held (c.tc : Thread nD τ) ∅ (V3 m c) ∗ comesIn m c)
    ⊢ (dats m 0 c).Φ 0 := by
  rw [show (dats m 0 c).Φ 0 = iprop(comesIn m c ∗ scratch c) from phi_first m c, scratch_eq]
  unfold scratch
  iintro ⟨⟨Hs, Hl⟩, Hp, -, HX⟩
  isplitl [HX]; · iexact HX
  isplitl [Hs]; · iexact Hs
  isplitl [Hl]; · iexact Hl
  iexact Hp

theorem leaving (c : Dev nD) : (dats m 0 c).Φ (Fin.last _)
    ⊢ iprop(Pipeline.scopedRest spec0 c ∗ (∃ r, prngReg c r) ∗ StableHlo.held (c.tc : Thread nD τ) ∅ (V4 m (outs m) c)
      ∗ Pipeline.ownSems0 osem c ∗ semVal (cell c 0) 0) := by
  rw [show (dats m 0 c).Φ (Fin.last _) = iprop(zeros c ∗ scratch c) from phi_last m c, scratch_eq, ownSems_eq]
  unfold scratch zeros
  iintro ⟨⟨H0, H1, H2, H3⟩, Hs, Hl, Hp⟩
  isplitl [Hs Hl]; · isplitl [Hs] <;> iassumption
  isplitl [Hp]; · iexact Hp
  isplitr; · unfold StableHlo.held; rw [bigSep_empty]; iempintro
  isplitr [H0]
  · isplitl [H1]; · iexact H1
    isplitl [H2]; · iexact H2
    iexact H3
  iexact H0

/-! ## The record -/

/-- The host's arrays that the call does not name. -/
abbrev others : Finset (DevRef τ sig) := Pipeline.ucRefs τ sig \ Pipeline.arrRefs spec0

theorem others_same (c : Dev nD) : ∀ b ∈ others \ ∅, V4 m (outs m) c b = V3 m c b := fun b hb => by
  rw [Finset.sdiff_empty] at hb
  refine Function.update_of_ne ?_ _ _
  rintro rfl
  refine (Finset.mem_sdiff.mp hb).2 (Finset.mem_map.mpr ⟨main_v17, Finset.mem_image.mpr ⟨2, Finset.mem_univ _, rfl⟩, rfl⟩)

/-- Every due before a point sits above the pipeline's own waits. -/
theorem owed_above (c : Dev nD) (t : Fin (cfg0.N + 1)) (g : GSem nD τ sig) (i : Unit) (h : 0 < (dats m 0 c).owed t g i) : i ∈ L g ∧ 0 < lv g i := by
  have e : (dats m 0 c).owed t = if t.val = 0 then O₀ c else 0 := rfl
  rw [e] at h
  split at h
  · obtain ⟨k, hk, rfl⟩ := O₀_pos h
    refine ⟨mem_L _ _ _, ?_⟩
    rw [lv_cell]; clear h e; revert hk; revert k; decide
  · exact absurd h (Nat.lt_irrefl 0)

theorem staging_low : ∀ (w : Fin 3) (s : Fin (spec0 w).nbuf), slotOf (.dma ((spec0 w).sem s)) = none := by decide

set_option backward.isDefEq.respectTransparency.types false in
/-- THE CALL'S SEGMENT. -/
def region : Pipeline.RegionSeg (pcfgs (F := F)) adm (dats m) () (defs₀ (F := F)) 𝒱₀ L lv 0 :=
  Pipeline.RegionSeg.ofTalk (pcfgs (F := F)) adm (dats m) () defs₀ 𝒱₀ L lv 0 osem (by decide : Pipeline.OwnSemFacts spec0 osem)
    ∅ others (Finset.empty_subset _) launch0.toP rfl (fun c => (body_obligation m c).loose)
    (fun _ => 0) O₀ (fun c => (owed_first m c).trans (zero_add _).symm) (owed_last m) (fun _ => rfl)
    (fun c w => (dat m c).share_full (fun _ => rfl) w)
    (V3 m) (V4 m (outs m)) (others_same m)
    (kept m) (fun c => semVal (cell c 0) 0) (comesIn m) (fun c => semVal (cell c 0) 0) (opening m) (entering m) (leaving m)
    (fun c => by iintro H; imodintro; iexact H)
    (fun _ => 0)
    ⟨fun _ _ _ => mem_L _ _ _, fun c w s => le_of_eq (by show (slotOf _).elim 0 rank = 0; rw [staging_low w s]; rfl), fun c t g i h => owed_above m c t g i h⟩
    (fun _ => iprop(emp))
    (arr_before m) (arr_after m)

/-- What a device holds beside the host's arrays, before the call. -/
def before (c : Dev nD) : sProp 𝕄 :=
  iprop((∃ r, prngReg c r) ∗ kept m c ∗ ∃ Wd, owes (c : Thread nD τ) (O₀ c) Wd)
/-- And after it. -/
def afterwards (c : Dev nD) : sProp 𝕄 :=
  iprop((∃ r, prngReg c r) ∗ semVal (cell c 0) 0 ∗ ∃ Wd, owes (c : Thread nD τ) (0 : CellTallies nD τ sig Unit) Wd)

theorem arr_sub : Pipeline.arrRefs spec0 ⊆ Pipeline.ucRefs τ sig := Pipeline.arrRefs_sub_ucRefs spec0 (by decide)

theorem region_pre (c : Dev nD) :
    iprop(StableHlo.held (c : Thread nD τ) (Pipeline.ucRefs τ sig) (V3 m c) ∗ before m c) ⊢ (region m).pre c := by
  show _ ⊢ iprop(StableHlo.held (c.tc : Thread nD τ) (Pipeline.arrRefs spec0) (V3 m c) ∗ (∃ r, prngReg c r)
    ∗ (StableHlo.held (c.tc : Thread nD τ) others (V3 m c) ∗ emp) ∗ kept m c ∗ ∃ Wd, owes (c : Thread nD τ) (0 + O₀ c) Wd)
  rw [zero_add, StableHlo.held_sub_split (c : Thread nD τ) arr_sub]
  unfold before
  iintro ⟨⟨Ha, Ho⟩, Hp, HK, HO⟩
  isplitl [Ha]; · iexact Ha
  isplitl [Hp]; · iexact Hp
  isplitl [Ho]
  · isplitl [Ho]; · iexact Ho
    iempintro
  isplitl [HK]; · iexact HK
  iexact HO

theorem region_post (c : Dev nD) :
    (region m).post c ⊢ iprop(StableHlo.held (c : Thread nD τ) (Pipeline.ucRefs τ sig) (V4 m (outs m) c) ∗ afterwards c) := by
  show iprop(StableHlo.held (c.tc : Thread nD τ) (Pipeline.arrRefs spec0) (V4 m (outs m) c) ∗ (∃ r, prngReg c r)
    ∗ (StableHlo.held (c.tc : Thread nD τ) others (V4 m (outs m) c) ∗ emp) ∗ semVal (cell c 0) 0
    ∗ ∃ Wd, owes (c : Thread nD τ) (0 : CellTallies nD τ sig Unit) Wd) ⊢ _
  rw [StableHlo.held_sub_split (c : Thread nD τ) arr_sub]
  unfold afterwards
  iintro ⟨Ha, Hp, ⟨Ho, -⟩, HB, HO⟩
  isplitl [Ha Ho]
  · isplitl [Ha] <;> iassumption
  isplitl [Hp]; · iexact Hp
  isplitl [HB]; · iexact HB
  iexact HO

end Cert.KernelIdeal.Exch

end
-- ==== Proof.Launch.lean ====
/-
  THE LAUNCH: every semaphore's invariant is set up at once, the three scoped ones still closed, and the rights and the credit
  are handed out to the devices.
-/
module

public import proofs.«01_k».proof.Proof.Region

@[expose] public section

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The sets the launch sets up -/

def barEmb : Dev nD ↪ GSem nD τ sig := ⟨fun c => cell c 0, fun _ _ h => (cell_inj h).1⟩
/-- The scoped ones: semaphore `k + 1` of each device. -/
def scEmb : Dev nD × Fin 3 ↪ GSem nD τ sig :=
  ⟨fun ck => cell ck.1 ck.2.succ, fun _ _ h => Prod.ext (cell_inj h).1 (Fin.succ_injective _ (cell_inj h).2)⟩
def tokEmb : Dev nD × Fin 4 ↪ GSem nD τ sig × ℕ × Unit :=
  ⟨fun ck => (cell ck.1 ck.2, 0, ()), fun _ _ h => Prod.ext (cell_inj (congrArg Prod.fst h)).1 (cell_inj (congrArg Prod.fst h)).2⟩

abbrev barCells : Finset (GSem nD τ sig) := Finset.univ.map barEmb
abbrev scCells : Finset (GSem nD τ sig) := Finset.univ.map scEmb
abbrev allToks : Finset (GSem nD τ sig × ℕ × Unit) := Finset.univ.map tokEmb

theorem cells_disjoint : Disjoint barCells scCells := by
  rw [Finset.disjoint_left]
  rintro g h₁ h₂
  obtain ⟨c, -, rfl⟩ := Finset.mem_map.mp h₁
  obtain ⟨ck, -, h⟩ := Finset.mem_map.mp h₂
  exact Fin.succ_ne_zero _ (cell_inj h).2

theorem cell_mem (c : Dev nD) (k : Fin 4) : cell c k ∈ barCells ∪ scCells := by
  refine Fin.cases ?_ (fun k => ?_) k
  · exact Finset.mem_union_left _ (Finset.mem_map_of_mem barEmb (Finset.mem_univ c))
  · exact Finset.mem_union_right _ (Finset.mem_map_of_mem scEmb (Finset.mem_univ (c, k)))

/-- What the protocol is launched with. -/
abbrev seed : UR sig nD τ := launchOf barCells scCells allToks

/-- The launch's element: the pipeline's own and the protocol's. -/
def u₀ : UU := (initOf (Pipeline.cells cfgs cellOf_inj) (Pipeline.launchToks cfgs cellOf_inj), seed)

/-- A resource placed on device 0, nothing elsewhere. -/
def onFirst (X : sProp 𝕄) (c : Dev nD) : sProp 𝕄 := if c = 0 then X else iprop(emp)

theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
    fun c hc => by unfold onFirst; rw [if_neg (Finset.ne_of_mem_erase hc)]; rfl, BI.bigSep_emp_const]
  unfold onFirst; rw [if_pos rfl]
  exact BI.equiv_iff.mp sep_emp

/-- The protocol's seed, whole on device 0 until it is shared out. -/
def G : Dev nD → sProp 𝕄 := onFirst (BI.own (ER seed))

/-- A family of pairs taken apart, and put together again. -/
theorem pairs_apart (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
theorem pairs_join (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

/-! ## What every device may consult, and what each keeps for itself -/

section Shares

variable (x : Dev nD → Blk F)

/-- The invariants, and that every barrier is at its first round. -/
def records (K : GSem nD τ sig → ℕ) : sProp 𝕄 := iprop(book x K ∗ bigSep Finset.univ fun c : Dev nD => reached ER (cell c 0) 0)

instance records_persistent (K : GSem nD τ sig → ℕ) : BI.Persistent (records x K) := by unfold records; infer_instance

/-- A device's own rights. -/
def own₀ (c : Dev nD) : sProp 𝕄 :=
  iprop(atPos ER (cell c 0) 0 ∅ 0 ∗ (openTok ER (cell c 1) ∗ openTok ER (cell c 2) ∗ openTok ER (cell c 3)) ∗ dues c)

theorem reached_at (c : Dev nD) : (bigSep Finset.univ fun c : Dev nD => (reached ER (cell c 0) 0 : sProp 𝕄)) ⊢ reached ER (cell c 0) 0 :=
  bigSep_elim (Finset.mem_univ c)

theorem ghost_intro (K : GSem nD τ sig → ℕ) (c : Dev nD) : iprop(records x K ∗ own₀ c) ⊢ iprop(∃ K, ghost x K c) := by
  unfold records own₀ ghost
  iintro ⟨⟨#HB, #HR⟩, Ha, Ho, Hd⟩
  iexists K
  isplitr; · iexact HB
  isplitl [Ha]; · iexact Ha
  isplitr
  · iapply (reached_at (F := F) (peer c)); iexact HR
  isplitl [Ho]; · iexact Ho
  iexact Hd

theorem book_intro (K : GSem nD τ sig → ℕ) :
    bigSep (barCells ∪ scCells) (fun g => (cellInv ER (Rd x) (K g) g : sProp 𝕄)) ⊢ book x K :=
  bigSep_intro_persistent fun ck _ => bigSep_elim (Φ := fun g => (cellInv ER (Rd x) (K g) g : sProp 𝕄)) (cell_mem ck.1 ck.2)

end Shares

theorem opens_eq : bigSep scCells (fun g => (openTok ER g : sProp 𝕄))
    = bigSep Finset.univ fun c : Dev nD => iprop(openTok ER (cell c 1) ∗ openTok ER (cell c 2) ∗ openTok ER (cell c 3)) := by
  rw [bigSep_map, bigSep_univ_prod]
  refine bigSep_congr fun c _ => ?_
  rw [bigSep_univ_eq_bigSepL ([0, 1, 2] : List (Fin 3)) (by decide) (by decide)]
  rfl

theorem toks_eq : bigSep allToks (fun t => (dutyTok ER t.1 t.2.1 t.2.2 : sProp 𝕄))
    = bigSep Finset.univ fun c : Dev nD => iprop(dutyTok ER (cell c 0) 0 () ∗ dutyTok ER (cell c 2) 0 () ∗ dutyTok ER (cell c 3) 0 () ∗ dutyTok ER (cell c 1) 0 ()) := by
  rw [bigSep_map, bigSep_univ_prod]
  refine bigSep_congr fun c _ => ?_
  rw [bigSep_univ_eq_bigSepL ([0, 2, 3, 1] : List (Fin 4)) (by decide) (by decide)]
  rfl

/-- The tokens for the partner's semaphores change hands. -/
theorem toks_swapped : bigSep allToks (fun t => (dutyTok ER t.1 t.2.1 t.2.2 : sProp 𝕄)) ⊢ bigSep Finset.univ fun c : Dev nD => dues c := by
  rw [toks_eq]
  unfold dues
  rw [bigSep_sep', bigSep_sep', bigSep_sep', bigSep_sep', bigSep_sep', bigSep_sep',
    bigSep_univ_equiv swap (fun c : Dev nD => (dutyTok ER (cell c 0) 0 () : sProp 𝕄)),
    bigSep_univ_equiv swap (fun c : Dev nD => (dutyTok ER (cell c 2) 0 () : sProp 𝕄)),
    bigSep_univ_equiv swap (fun c : Dev nD => (dutyTok ER (cell c 3) 0 () : sProp 𝕄))]
  exact BI.Entails.refl _

/-! ## The credit of the launch -/

theorem due_at (d c : Dev nD) (j k : Fin 4) : due d j (cell c k) () = if d = peer c ∧ j = k then units k else 0 := by
  unfold due
  rw [tallyAt_apply]
  by_cases h : d = peer c ∧ j = k
  · obtain ⟨rfl, rfl⟩ := h
    rw [peer_peer, if_pos ⟨rfl, rfl⟩, if_pos ⟨rfl, rfl⟩]
  · rw [if_neg h, if_neg]
    rintro ⟨e, -⟩
    obtain ⟨rfl, rfl⟩ := cell_inj e
    exact h ⟨(peer_peer d).symm, rfl⟩

theorem owed_at (d c : Dev nD) (k : Fin 4) (hk : k ≠ 1) : O₀ d (cell c k) () = if d = peer c then units k else 0 := by
  unfold O₀
  rw [Pi.add_apply, Finsupp.add_apply, Pi.add_apply, Finsupp.add_apply, due_at, due_at, due_at]
  by_cases h : d = peer c
  · rw [if_pos h]; simp only [h, true_and]
    revert hk; revert k; decide +kernel
  · simp only [h, false_and, if_false, Nat.add_zero]

theorem credit_at (c : Dev nD) (k : Fin 4) (hk : k ≠ 1) :
    tallyOn (cell c k) (launchCredit (Pipeline.owing O₀) 0 (cell c k)) = (tallyAt (cell c k) () (units k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (peer c) fun _ => units k, if_pos (Finset.mem_univ _)]

theorem launch_creds (c : Dev nD) : (Pipeline.launchCred O₀ c : sProp 𝕄) ⊢ creds c := by
  unfold Pipeline.launchCred creds
  rw [bigSep_univ_at _ (semOf 0), bigSep_erase (i := semOf 2) (Finset.mem_erase.mpr ⟨by decide, Finset.mem_univ _⟩),
    credit_at c 0 (by decide), credit_at c 2 (by decide), ← credit_at c 3 (by decide)]
  refine sep_mono_right (sep_mono_right ?_)
  exact bigSep_elim (Finset.mem_erase.mpr ⟨by decide, Finset.mem_erase.mpr ⟨by decide, Finset.mem_univ _⟩⟩)

theorem free_sems_eq (c : Dev nD) : (unscopedSems0 c : sProp 𝕄) = semVal (cell c 0) 0 := by
  unfold unscopedSems0
  rw [show (Finset.univ.filter fun sm : SemLoc sig => ¬sm.isScoped .tc = true) = {SemLoc.reg barS} by decide, bigSep_singleton]

/-! ## Sharing out -/

variable [FloatOps F] (m : (ℓ : Loc nD τ sig) → Buf (Elt F) ℓ)

/-- What a device has at launch that is not shared out. -/
def bundle (c : Dev nD) : sProp 𝕄 := iprop((∃ r, prngReg c r) ∗ creds c ∗ owes (c : Thread nD τ) (O₀ c) ∅)

theorem before_intro (K : GSem nD τ sig → ℕ) (c : Dev nD) : iprop(records (masked m) K ∗ (own₀ c ∗ bundle c)) ⊢ before m c := by
  unfold bundle before kept
  iintro ⟨#HR, Ho, Hp, Hc, HO⟩
  isplitl [Hp]; · iexact Hp
  isplitr [HO]
  · isplitr [Hc]
    · iapply (ghost_intro (masked m) K c)
      isplitr; · iexact HR
      iexact Ho
    iexact Hc
  iexists ∅; iexact HO

/-- From what the launch hands out, every device has what it holds before the call. -/
theorem share_out (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (before m) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ (semVal (cell c 0) 0 ∗ G c)) : sProp 𝕄) := by
    rw [free_sems_eq]
    unfold bundle
    iintro ⟨Hs, HO, Hcr, Hp, HG⟩
    isplitl [HO Hcr Hp]
    · isplitl [Hp]; · (iexists (ρ c); iexact Hp)
      isplitl [Hcr]; · iapply (launch_creds (F := F) c); iexact Hcr
      iexact HO
    isplitl [Hs] <;> iassumption
  have hv : bigSep Finset.univ (fun c : Dev nD => (semVal (cell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (cell c 0) 0 : sProp 𝕄)) :=
    Entails.of_eq (bigSep_map (s := Finset.univ) barEmb (Φ := fun g : GSem nD τ sig => (reached ER g 0 : sProp 𝕄)))
  have hat : bigSep barCells (fun g => (atPos ER g 0 ∅ 0 : sProp 𝕄)) ⊢ bigSep Finset.univ (fun c : Dev nD => (atPos ER (cell c 0) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle c ∗ (semVal (cell c 0) 0 ∗ G c)) : sProp 𝕄) from bigSep_mono fun c _ => hcore c) $$ H
  ihave H2 := pairs_apart _ _ $$ H'; icases H2 with ⟨HB, H3⟩
  ihave H4 := pairs_apart _ _ $$ H3; icases H4 with ⟨Hv, HG⟩
  ihave Hu := (show bigSep Finset.univ (G (F := F)) ⊢ BI.own (ER seed) from Entails.of_eq (onFirst_all (F := F) (BI.own (ER seed)))) $$ HG
  imod (Rounds.fund_launch ER (Rd (masked m)) cells_disjoint (fun g _ h => h) allToks) $$ [Hv Hu] with ⟨%K, -, #Hinv, #Hr, Hat, Hopen, Htok⟩
  · isplitl [Hv]
    · iapply hv $$ Hv
    · iexact Hu
  imodintro
  iapply (bigSep_with_persistent (R := records (masked m) K) (Φ := fun c => iprop(own₀ c ∗ bundle c)) fun c _ => before_intro m K c)
  isplitr
  · unfold records
    isplitr; · iapply (book_intro (masked m) K); iexact Hinv
    iapply hr $$ Hr
  iapply pairs_join
  isplitr [HB]
  · unfold own₀
    iapply pairs_join; isplitl [Hat]; · iapply hat $$ Hat
    iapply pairs_join; isplitl [Hopen]; · iapply (Entails.of_eq (opens_eq (F := F))) $$ Hopen
    iapply (toks_swapped (F := F)) $$ Htok
  · iexact HB

end Cert.KernelIdeal.Exch

end
-- ==== Proof.Run.lean ====
/-
  THE RUN of the whole program on the mesh, over any float values.
-/
module

public import proofs.«01_k».proof.Proof.Launch

@[expose] public section

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-- What a device holds beside the host's arrays: before the call, and after it. -/
def rest : Fin 2 → Dev nD → sProp 𝕄
  | 0 => before m
  | 1 => afterwards

/-- The one semaphore that outlives the call is the barrier's. -/
theorem free_sem : ∀ sm : SemLoc sig, sm.isScoped .tc = false → sm = semOf 0 := by decide

/-- What is read off the end on device `c`: the arguments, the result, the barrier's counter. -/
def endsAt (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v17) = summed m c)
  ∧ s.sem (cell c 0) = 0

/-- A host array at the end, read off the last valuation. -/
theorem host_mem (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option backward.isDefEq.respectTransparency.types false in
/-- From any memory with the counters at zero the program ends, on every device with its arguments as they were and its result
    the sum of its masked block and its partner's, and with every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v17) = summed m c) ∧ r.2.sem = fun _ => 0) := by
  refine Pipeline.θ_run_regions_kit_dev_sems (pcfgs (F := F)) adm (dats m) () cellOf_inj EP defs₀ 𝒱₀ L lv m ρ main
    (segs m 𝒱₀ L lv (rest m) () (dats m) (region m))
    (fun c Q => by
      rewrite [main_chain c, Seg.run_eq_chain,
        show (segs m 𝒱₀ L lv (rest m) () (dats m) (region m) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ ?_
    (T₀ := fun c => iprop(StableHlo.held (c : Thread nD τ) (Pipeline.ucRefs τ sig) (V0 m c) ∗ before m c))
    (Tₙ := fun c => iprop(StableHlo.held (c : Thread nD τ) (Pipeline.ucRefs τ sig) (V4 m (outs m) c) ∗ semVal (cell c 0) 0))
    (hch := fun c => ⟨.rfl, .rfl, .rfl, region_pre m c, (region_post m c).trans ?_⟩)
    (hinit := ?_) (QY := fun c s => endsAt m c s) (hfin := fun c s' => ?_) (hQ := fun s h hs => ⟨fun c => (h c).1, ?_⟩)
  · -- the launch's element: the pipeline's part, and the protocol's
    unfold u₀ G
    iintro Hu
    ihave H := (ownU_pair _ _) $$ Hu
    icases H with ⟨HP, HX⟩
    imodintro
    isplitl [HP]; · iexact HP
    rw [onFirst_all]; iexact HX
  · unfold afterwards
    iintro ⟨Hh, -, Hb, HO⟩
    isplitr [HO]
    · isplitl [Hh] <;> iassumption
    iexact HO
  · -- the launch: the host's arrays, and the rest shared out
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (share_out m ρ) $$ [Hr Hla] with HE
    · isplitl [Hr]; · iexact Hr
      iexact Hla
    imodintro
    iapply pairs_join
    isplitl [Hh]; · iexact Hh
    iexact HE
  · -- the end: the arrays read off the last valuation, the barrier's counter off its share
    unfold StableHlo.held
    iintro ⟨⟨Hh, Hb⟩, HSI⟩
    icombine HSI Hb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨⟨(h (Proc.devRef .tc main_arg0) (host_mem main_arg0 rfl)).trans (V4_main_arg0 m (outs m) c),
        (h (Proc.devRef .tc main_arg1) (host_mem main_arg1 rfl)).trans (V4_main_arg1 m (outs m) c),
        (h (Proc.devRef .tc main_v17) (host_mem main_v17 rfl)).trans (V4_v17 m c)⟩, by simpa using hb⟩
    · iexact HSI
  · -- every counter: the scoped ones by the launch, the barrier's as read
    refine sem_eq_zero hs fun c sm hsm => ?_
    obtain rfl := free_sem sm hsm
    exact (h c).2

end Cert.KernelIdeal.Exch

end
-- ==== Proof.Pre.lean ====
/-
  WHAT THE PRECONDITION SAYS: every index is a row number of the table, that is, a number below 8192.
-/
module

public import proofs.«01_k».proof.Proof.Gen.Pre_ids_in_table_KernelIdeal
public import Idealize.ShloMosaic.Lib.ReduceAll
public import Idealize.ShloMosaic.Lib.StableHlo.Predicate
public import Idealize.ShloMosaic.Lib.ValueIdxCore

@[expose] public section

noncomputable section

namespace Cert.Pre_ids_in_table_KernelIdeal

open Cert.Pre_ids_in_table_KernelIdeal.Gen
open Idealize.ShloMosaic
open Idealize.ShloMosaic.ValueIdx

/-- A word that is at least 0 and below 8192, both read signed, is the word of a number below 8192. -/
theorem word_of_bounds (w : BitVec 32) (h : IntOp.andi (IntOp.cmpi .sge w 0#32) (IntOp.cmpi .slt w 8192#32) = 1#1) :
    ∃ n : ℕ, n < 8192 ∧ w = BitVec.ofNat 32 n := by
  have split : ∀ a b : BitVec 1, IntOp.andi a b = 1#1 → a = 1#1 ∧ b = 1#1 := by decide
  obtain ⟨h0, h1⟩ := split _ _ h
  have h8 : (8192#32 : BitVec 32).toInt = 8192 := by decide
  have hz : (0#32 : BitVec 32).toInt = 0 := by decide
  simp only [IntOp.cmpi, StableHlo.Predicate.ofBool_eq_one_iff, BitVec.sle, BitVec.slt, decide_eq_true_eq, h8, hz] at h0 h1
  refine ⟨w.toNat, ?_, by simp⟩
  rw [BitVec.toInt_eq_toNat_cond] at h0 h1
  have := w.isLt
  split at h0 <;> split at h1 <;> omega

/-- Where the precondition is true, every index is the word of a row number of the table. -/
theorem row_numbers {F : FTy → Type} [FloatOps F] (ids : IVec S512 32) (x : FVec F S4096x512 .bf16)
    (h : fn ids x = fun _ => 1#1) (i : S512.Idx) : ∃ n : ℕ, n < 8192 ∧ ids i = BitVec.ofNat 32 n := by
  have : Subsingleton S_.Idx := ⟨fun a b => funext fun k => k.elim0⟩
  exact word_of_bounds _ (Host.reduce_andi_all _ _ _ _ (fun a => a.elim0) (congrFun h _) i)

end Cert.Pre_ids_in_table_KernelIdeal

end
-- ==== Proof.Words.lean ====
/-
  THE INDEX ARITHMETIC, on 32-bit words.

  A row number below 8192 lies in one of the table's two halves of 4096 rows.  Less the first row number of a half `q`, it is
  its place in the half when it lies there, and otherwise a word outside 0 … 4095.
-/
module

public import Idealize.ShloMosaic.Lib.StableHlo.Predicate
public import Idealize.ShloMosaic.Lib.ValueIdxCore

@[expose] public section

namespace Cert.KernelIdeal.Exch

open Idealize.ShloMosaic

/-- jnp's reading of a row number, a negative one counted from the end of an array of `n` rows. -/
def wrapped (n : BitVec 32) (w : BitVec 32) : BitVec 32 := Scalar.select (IntOp.cmpi .slt w 0#32) (IntOp.addi w n) w

/-- The bit that says whether a local row number lies between 0 and 4095. -/
def inPart (w : BitVec 32) : BitVec 1 := IntOp.andi (IntOp.cmpi .sge w 0#32) (IntOp.cmpi .slt w 4096#32)

/-- A row number that is not negative is read as it stands. -/
theorem wrapped_small (n : BitVec 32) (k : ℕ) (hk : k < 2 ^ 31) : wrapped n (BitVec.ofNat 32 k) = BitVec.ofNat 32 k := by
  have h : IntOp.cmpi .slt (BitVec.ofNat 32 k) 0#32 = 0#1 := by
    refine ValueIdx.eq_zero_of_ne_one fun e => ?_
    have := (StableHlo.Predicate.slt_ofNat_iff k 0 hk (by decide)).1 e
    omega
  unfold wrapped
  rw [h]
  rfl

/-- In half `q`, row `n` of the table has the local row number `n % 4096`. -/
theorem local_inside (n q : ℕ) (hn : n < 8192) (hq : n / 4096 = q) :
    BitVec.ofNat 32 n - BitVec.ofNat 32 (4096 * q) = BitVec.ofNat 32 (n % 4096) := by
  apply BitVec.eq_of_toNat_eq
  simp only [BitVec.toNat_sub, BitVec.toNat_ofNat]
  omega

/-- A local row number below 4096 is not changed by the clip. -/
theorem clip_inside (k : ℕ) (hk : k < 4096) :
    IntOp.minsi 4095#32 (IntOp.maxsi 0#32 (BitVec.ofNat 32 k)) = BitVec.ofNat 32 k := by
  have hi : (BitVec.ofNat 32 k).toInt = k := StableHlo.Predicate.toInt_ofNat_small k (by omega)
  have h0 : (0#32 : BitVec 32).toInt = 0 := by decide
  have h1 : (4095#32 : BitVec 32).toInt = 4095 := by decide
  have hmax : IntOp.maxsi 0#32 (BitVec.ofNat 32 k) = BitVec.ofNat 32 k := by
    unfold IntOp.maxsi
    split <;> rename_i hc <;> simp only [BitVec.slt, hi, h0, decide_eq_true_eq] at hc
    all_goals first | rfl | (apply BitVec.eq_of_toInt_eq; rw [hi, h0]; omega)
  rw [hmax]
  unfold IntOp.minsi
  split <;> rename_i hc <;> simp only [BitVec.slt, hi, h1, decide_eq_true_eq] at hc
  all_goals first | rfl | (apply BitVec.eq_of_toInt_eq; rw [hi, h1]; omega)

/-- A local row number below 4096 is in the part. -/
theorem inPart_inside (k : ℕ) (hk : k < 4096) : inPart (BitVec.ofNat 32 k) = 1#1 := by
  have a : IntOp.cmpi .sge (BitVec.ofNat 32 k) 0#32 = 1#1 :=
    (StableHlo.Predicate.sle_ofNat_iff 0 k (by decide) (by omega)).2 (by omega)
  have b : IntOp.cmpi .slt (BitVec.ofNat 32 k) 4096#32 = 1#1 :=
    (StableHlo.Predicate.slt_ofNat_iff k 4096 (by omega) (by decide)).2 hk
  unfold inPart
  rw [a, b]
  rfl

/-- The local row number, in half `q`, of a row of the other half is not in the part. -/
theorem inPart_outside (n q : ℕ) (hn : n < 8192) (hq : q < 2) (hne : n / 4096 ≠ q) :
    inPart (BitVec.ofNat 32 n - BitVec.ofNat 32 (4096 * q)) = 0#1 := by
  unfold inPart
  rcases Nat.lt_or_ge n 4096 with h | h
  · obtain rfl : q = 1 := by omega
    have a : IntOp.cmpi .sge (BitVec.ofNat 32 n - BitVec.ofNat 32 (4096 * 1)) 0#32 = 0#1 := by
      refine ValueIdx.eq_zero_of_ne_one fun e => ?_
      simp only [IntOp.cmpi, StableHlo.Predicate.ofBool_eq_one_iff, BitVec.sle, BitVec.toInt_eq_toNat_cond, BitVec.toNat_sub,
        BitVec.toNat_ofNat, decide_eq_true_eq] at e
      split at e <;> split at e <;> omega
    rw [a]
    exact BitVec.zero_and
  · obtain rfl : q = 0 := by omega
    have b : IntOp.cmpi .slt (BitVec.ofNat 32 n - BitVec.ofNat 32 (4096 * 0)) 4096#32 = 0#1 := by
      refine ValueIdx.eq_zero_of_ne_one fun e => ?_
      rw [show BitVec.ofNat 32 n - BitVec.ofNat 32 (4096 * 0) = BitVec.ofNat 32 n from BitVec.sub_zero _] at e
      have := (StableHlo.Predicate.slt_ofNat_iff n 4096 (by omega) (by decide)).1 e
      omega
    rw [b]
    exact BitVec.and_zero

end Cert.KernelIdeal.Exch
-- ==== Proof.Reference.lean ====
/-
  WHAT THE REFERENCE COMPUTES: row `p` of its result is the row of the table that index `p` names.
-/
module

public import proofs.«01_k».proof.Proof.Gen.ReferenceIdeal.Run
public import proofs.«01_k».proof.Proof.Words
public import Idealize.ShloMosaic.Lib.Routing.Ops
public import Idealize.ShloMosaic.PureOps.Ideal

@[expose] public section

noncomputable section

namespace Cert.ReferenceIdeal.Value

open Cert.ReferenceIdeal Cert.ReferenceIdeal.Gen
open Idealize.ShloMosaic
open Idealize.ShloMosaic.TcCoe Idealize.ShloMosaic.ValueIdx
open Cert.KernelIdeal.Exch (wrapped wrapped_small)

/-- The reference's result, of the indices and the whole table: its rows gathered, a negative index counted from the end. -/
def embedded (ids : IVec S512 32) (E : FVec Ideal S8192x512 .bf16) : FVec Ideal S512x512 .f32 :=
  extf .f32 (Host.gather gather_S8192x512_S512x1_S512x512_1_0_n_n_0_1_1512 E
    (broadcastInDim S512x1 ![0] bcast_S512_S512x1_0 fun i => wrapped 8192#32 (ids i))) bitsLt_bf16_f32

/-- At an index that is a row number of the table, the result has that row. -/
theorem embedded_at (ids : IVec S512 32) (E : FVec Ideal S8192x512 .bf16) (p q : Fin 512) (n : ℕ) (hn : n < 8192)
    (hid : ids (ix1 p) = BitVec.ofNat 32 n) : embedded ids E (ix2 p q) = E (ix2 (⟨n, hn⟩ : Fin 8192) q) := by
  refine Routing.gather_row gather_S8192x512_S512x1_S512x512_1_0_n_n_0_1_1512 rfl rfl rfl rfl rfl E _ p q ⟨n, hn⟩ ?_ (by decide)
  have e : broadcastInDim S512x1 ![0] bcast_S512_S512x1_0 (fun i => wrapped 8192#32 (ids i)) (ix2 p (0 : Fin 1))
      = wrapped 8192#32 (ids (ix1 p)) :=
    Idealize.ShloMosaic.broadcastInDim_apply _ _ _ _ (ix1 p) fun a => by fin_cases a; rfl
  rw [e, hid, wrapped_small _ _ (by omega)]

end Cert.ReferenceIdeal.Value

end
-- ==== Proof.Host.lean ====
/-
  WHAT THE HOST HANDS TO THE KERNEL on each device.

  Device `c` holds rows `4096 · part c …` of the table.  The host turns each index into a local row number by subtracting
  that offset, clips it into the device's part, and gathers the rows at the clipped numbers.
-/
module

public import proofs.«01_k».proof.Proof.Region
public import proofs.«01_k».proof.Proof.Words
public import Idealize.ShloMosaic.Lib.StableHlo.Run
public import Idealize.ShloMosaic.Lib.Routing.Ops

@[expose] public section

noncomputable section

namespace Cert.KernelIdeal.Exch

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- Which half of the table device `c` holds. -/
def part (c : Dev nD) : ℕ := c.val / 8

theorem part_lt (c : Dev nD) : part c < 2 := by
  have : c.val < 16 := c.isLt
  unfold part; omega

/-- The indices, as device `c` holds them. -/
abbrev ids (c : Dev nD) : IVec S512 32 := m ((c.tc : Thread nD τ).loc main_arg0)
/-- Device `c`'s part of the table. -/
abbrev table (c : Dev nD) : FVec F S4096x512 .bf16 := m ((c.tc : Thread nD τ).loc main_arg1)

/-- The first row number of device `c`'s part, as the host computes it from the device's number. -/
theorem offset_word (c : Dev nD) :
    IntOp.muli (Host.remui (Host.divui (constantI S_ 32 (Dev.word c)) (constantI S_ 32 8#32)) (constantI S_ 32 2#32) (fun a => a.elim0)) 4096#32
      = BitVec.ofNat 32 (4096 * part c) := by
  revert c; decide

/-- The local row numbers: each index less the first row number of the device's part. -/
theorem local_rows (c : Dev nD) (i : S512.Idx) : V1 m c main_v7 i = ids m c i - BitVec.ofNat 32 (4096 * part c) := by
  rw [← offset_word c]
  unfold_abbrev_sides
  after_results
  rfl

/-- The lower limit of the clip, as the first stretch leaves it. -/
theorem low_limit (c : Dev nD) : V1 m c main_c_2 = constantI S_ 32 0#32 := by
  unfold_abbrev_sides
  after_results
/-- The upper limit of the clip, as the first stretch leaves it. -/
theorem high_limit (c : Dev nD) : V1 m c main_c_3 = constantI S_ 32 4095#32 := by
  unfold_abbrev_sides
  after_results

/-- The row numbers that the host gathers at: the local ones, held between 0 and 4095. -/
theorem clipped_rows (c : Dev nD) (i : S512.Idx) :
    V2 m c main_v8 i = IntOp.minsi 4095#32 (IntOp.maxsi 0#32 (V1 m c main_v7 i)) := by
  have h0 := low_limit m c
  have h1 := high_limit m c
  show StableHlo.after hostOps0_1 (V1 m c) main_v8 i = _
  generalize V1 m c = W at h0 h1 ⊢
  have e : StableHlo.after hostOps0_1 W main_v8
      = minsi (broadcastInDim S512 ![] bcast_S_S512 (W main_c_3)) (maxsi (broadcastInDim S512 ![] bcast_S_S512 (W main_c_2)) (W main_v7)) := by
    unfold_abbrev_sides
    after_results
    rfl
  rw [e, h0, h1]
  rfl

/-- The column of row numbers that the gather on device `c` reads. -/
def rowCol (c : Dev nD) : IVec S512x1 32 :=
  broadcastInDim S512x1 ![0] bcast_S512_S512x1_0 fun i => wrapped 4096#32 (V2 m c main_v8 i)

/-- The kernel's first operand: the device's part of the table, gathered at those row numbers. -/
theorem rows_eq (c : Dev nD) :
    rows m c = Host.gather gather_S4096x512_S512x1_S512x512_1_0_n_n_0_1_1512 (table m c) (rowCol m c) := by
  have h1 : V2 m c main_arg1 = table m c :=
    (V2_of m c main_arg1 (by decide)).trans ((V1_of m c main_arg1 (by decide)).trans rfl)
  unfold rowCol
  show StableHlo.after hostOps0_2 (V2 m c) main_v15 = _
  generalize V2 m c = W at h1 ⊢
  rw [← h1]
  unfold_abbrev_sides
  after_results
  rfl

/-- The kernel's second operand: the local row numbers, as a column. -/
theorem locs_eq (c : Dev nD) : locs m c = broadcastInDim S512x1 ![0] bcast_S512_S512x1_0 (V1 m c main_v7) := by
  have h1 : V2 m c main_v7 = V1 m c main_v7 := V2_of m c main_v7 (by decide)
  show StableHlo.after hostOps0_2 (V2 m c) main_v16 = _
  rw [← h1]
  generalize V2 m c = W
  unfold_abbrev_sides
  after_results

end Cert.KernelIdeal.Exch

end
-- ==== Proof.Masked.lean ====
/-
  WHAT ONE DEVICE CONTRIBUTES: the masked block, entry by entry.

  Where the index of a row of the result is a row number of the device's own part of the table, the masked block has that row
  of the part; everywhere else it has zero, whatever the host gathered there.
-/
module

public import proofs.«01_k».proof.Proof.Host

@[expose] public section

noncomputable section

namespace Cert.KernelIdeal.Exch

open Cert.KernelIdeal Cert.KernelIdeal.Gen
open Idealize.ShloMosaic hiding ix1 ix2
open Idealize.ShloMosaic.TcCoe Idealize.ShloMosaic.ValueIdx

/-- A vector of 512 words laid out as a column has at row `p` its entry `p`. -/
theorem column_at {α : Type} (v : S512.Idx → α) (p : Fin 512) :
    broadcastInDim S512x1 ![0] bcast_S512_S512x1_0 v (ix2 p (0 : Fin 1)) = v (ix1 p) :=
  Idealize.ShloMosaic.broadcastInDim_apply _ _ _ _ _ fun a => by fin_cases a; rfl

/-- A column spread over 512 columns has at `(p, q)` the column's entry `p`. -/
theorem spread_at {α : Type} (v : S512x1.Idx → α) (p q : Fin 512) :
    broadcastTo S512x512 v broadcasts_S512x1_S512x512 (ix2 p q) = v (ix2 p (0 : Fin 1)) :=
  congrArg v (by funext a; fin_cases a <;> rfl)

section AnyFloats

variable {F : FTy → Type} [FloatOps F]

/-- The kernel's mask at an entry: the gathered entry if the row's local number is in the part, else zero. -/
theorem mask_at (v : Vec F S512x1 .i32) (x : Vec F S512x512 .bf16) (p q : Fin 512) :
    k0_pay2 v x (ix2 p q)
      = Scalar.select (inPart (v (ix2 p (0 : Fin 1)))) (x (ix2 p q)) (Scalar.truncf .bf16 bitsLt_bf16_f32 (Scalar.ofBits .f32 0x00000000#32)) := by
  unfold k0_pay2
  simp only [Idealize.ShloMosaic.shapeCast_self, select_apply, spread_at]
  rfl

variable (m : (ℓ : Loc nD τ sig) → Buf (Elt F) ℓ)

/-- The second operand at row `p`: the index less the first row number of the device's part. -/
theorem locs_at (c : Dev nD) (p : Fin 512) :
    locs m c (ix2 p (0 : Fin 1)) = ids m c (ix1 p) - BitVec.ofNat 32 (4096 * part c) := by
  rw [locs_eq]
  exact (column_at _ p).trans (local_rows m c (ix1 p))

/-- The gather's row number at row `p`, when the index is row `n` of the table and lies in the device's part. -/
theorem rowCol_at (c : Dev nD) (p : Fin 512) (n : ℕ) (hn : n < 8192) (hid : ids m c (ix1 p) = BitVec.ofNat 32 n)
    (hpart : n / 4096 = part c) : rowCol m c (ix2 p (0 : Fin 1)) = BitVec.ofNat 32 (n % 4096) := by
  unfold rowCol
  rw [column_at, clipped_rows, local_rows, hid, local_inside n _ hn hpart, clip_inside _ (Nat.mod_lt _ (by decide)),
    wrapped_small _ _ (by omega)]

/-- The device whose part has the row: its masked block has that row of its part. -/
theorem masked_inside (c : Dev nD) (p q : Fin 512) (n : ℕ) (hn : n < 8192) (hid : ids m c (ix1 p) = BitVec.ofNat 32 n)
    (hpart : n / 4096 = part c) :
    masked m c (ix2 p q) = table m c (ix2 (⟨n % 4096, Nat.mod_lt _ (by decide)⟩ : Fin 4096) q) := by
  unfold masked
  rw [mask_at, locs_at, hid, local_inside n _ hn hpart, inPart_inside _ (Nat.mod_lt _ (by decide)), select_one, rows_eq]
  exact Routing.gather_row gather_S4096x512_S512x1_S512x512_1_0_n_n_0_1_1512 rfl rfl rfl rfl rfl (table m c) (rowCol m c) p q
    ⟨n % 4096, Nat.mod_lt _ (by decide)⟩ (rowCol_at m c p n hn hid hpart) (by decide)

end AnyFloats

variable (m : (ℓ : Loc nD τ sig) → Buf (Elt Ideal) ℓ)

/-- The other devices: the masked block has zero there. -/
theorem masked_outside (c : Dev nD) (p q : Fin 512) (n : ℕ) (hn : n < 8192) (hid : ids m c (ix1 p) = BitVec.ofNat 32 n)
    (hpart : n / 4096 ≠ part c) : masked m c (ix2 p q) = (0 : EReal) := by
  unfold masked
  rw [mask_at, locs_at, hid, inPart_outside n _ hn (part_lt c) hpart, select_zero]
  exact Ideal.ofBits_zero_f32

end Cert.KernelIdeal.Exch

end
-- ==== Proof.Equation.lean ====
/-
  THE EQUATION: on every device the kernel's result is the reference's.

  A device and its partner hold the two halves of the table.  The row that an index names lies in one of them, so one of the
  two masked blocks has that row and the other has zero; their sum is the row.
-/
module

public import proofs.«01_k».proof.Proof.Masked
public import proofs.«01_k».proof.Proof.Reference
public import Idealize.ShloMosaic.Lib.LayoutAt

@[expose] public section

noncomputable section

namespace Cert.KernelIdeal.Exch

open Cert.KernelIdeal Cert.KernelIdeal.Gen
open Idealize.ShloMosaic hiding ix1 ix2 eq_ix2
open Idealize.ShloMosaic.TcCoe Idealize.ShloMosaic.ValueIdx
open Cert.ReferenceIdeal.Value (embedded embedded_at)

/-- A device and its partner hold different halves of the table. -/
theorem part_peer (c : Dev nD) : part (peer c) = 1 - part c := by
  revert c; decide

/-- Device `c`'s part of a whole table, as the claim names it. -/
abbrev partOf (E : FVec Ideal Cert.ReferenceIdeal.S8192x512 .bf16) (c : Dev nD) : FVec Ideal S4096x512 .bf16 :=
  Layout.blockN ⟨2, ![4096, 512]⟩ ⟨2, ![8192, 512]⟩ (Layout.meshBlock [2, 2, 4] ![[0], []] c) E

/-- The block that a device's first mesh coordinate names is the half of the table that it holds. -/
theorem mesh_part : ∀ c : Dev nD, Layout.meshLin [2, 2, 4] c.val [0] = part c := by decide

/-- Row `k` of device `c`'s part is row `4096 · part c + k` of the table. -/
theorem part_row (c : Dev nD) (E : FVec Ideal Cert.ReferenceIdeal.S8192x512 .bf16) (k : Fin 4096) (q : Fin 512) (n : ℕ) (hn : n < 8192)
    (hk : n = 4096 * part c + k.val) : partOf E c (ix2 k q) = E (ix2 (⟨n, hn⟩ : Fin 8192) q) := by
  have hp := mesh_part c
  rw [partOf, Layout.blockN_apply]
  refine congrArg E (funext fun a => Fin.ext ?_)
  rw [Layout.TilesN.idx_val]
  fin_cases a
  · show Layout.meshLin [2, 2, 4] c.val [0] * 4096 + k.val = n
    rw [hp, hk]; omega
  · show 0 * 512 + q.val = q.val
    omega

variable (m : (ℓ : Loc nD τ sig) → Buf (Elt Ideal) ℓ)

/-- The kernel's result at an entry: the two masked blocks' entries, added. -/
theorem summed_at (c : Dev nD) (i : S512x512.Idx) :
    summed m c i = @HAdd.hAdd EReal EReal EReal _ (masked m c i) (masked m (peer c) i) := rfl

/-- If every device holds the same indices, all of them row numbers of the table, and its part of the table, then the kernel's
    result on every device is the table's rows that the indices name. -/
theorem summed_eq (ids' : IVec S512 32) (E : FVec Ideal Cert.ReferenceIdeal.S8192x512 .bf16)
    (hids : ∀ c, ids m c = ids')
    (htable : ∀ c, table m c = partOf E c)
    (hrow : ∀ i, ∃ n : ℕ, n < 8192 ∧ ids' i = BitVec.ofNat 32 n) (c : Dev nD) : summed m c = embedded ids' E := by
  funext i
  obtain ⟨p, q, rfl⟩ : ∃ (p : Fin 512) (q : Fin 512), i = ix2 p q := ⟨i 0, i 1, eq_ix2 i⟩
  obtain ⟨n, hn, hid⟩ := hrow (ix1 p)
  have hd : ∀ d, ids m d (ix1 p) = BitVec.ofNat 32 n := fun d => by rw [hids d]; exact hid
  -- a device of the half that has row `n` contributes the row
  have inside : ∀ d, n / 4096 = part d → masked m d (ix2 p q) = E (ix2 (⟨n, hn⟩ : Fin 8192) q) := fun d h => by
    rw [masked_inside m d p q n hn (hd d) h, htable d]
    exact part_row d E ⟨n % 4096, Nat.mod_lt _ (by decide)⟩ q n hn (by rw [← h]; exact (Nat.div_add_mod n 4096).symm)
  have outside : ∀ d, n / 4096 ≠ part d → masked m d (ix2 p q) = (0 : EReal) := fun d h => masked_outside m d p q n hn (hd d) h
  rw [summed_at, embedded_at ids' E p q n hn hid]
  have hc := part_lt c
  have hp := part_peer c
  by_cases h : n / 4096 = part c
  · rw [inside c h, outside (peer c) (by omega), add_zero]
  · rw [outside c h, inside (peer c) (by omega), zero_add]

end Cert.KernelIdeal.Exch

end
-- ==== Proof.lean ====
/-
  THE CERTIFICATE of a sharded embedding lookup over 16 devices.

  The table has its 8192 rows cut in two halves along the first mesh axis; the 512 indices are on every device.  Each device
  gathers the rows of its own half, puts zero where the index is not in it, sends the block to the device that holds the
  other half, and adds the block that it receives to its own.

  Proof/Proto.lean, Proof/Body.lean, Proof/Region.lean, Proof/Launch.lean and Proof/Run.lean prove the run of the program over
  any float values; Proof/Words.lean, Proof/Host.lean and Proof/Masked.lean read what one device contributes;
  Proof/Reference.lean reads the reference, Proof/Pre.lean the precondition; Proof/Equation.lean equates the results.
  Here the claims are assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_table_KernelIdeal
public import proofs.«01_k».proof.Proof.Gen.Pre_ids_in_table_ReferenceIdeal
public import proofs.«01_k».proof.Proof.Run
public import proofs.«01_k».proof.Proof.Pre
public import proofs.«01_k».proof.Proof.Reference
public import proofs.«01_k».proof.Proof.Equation
public import Idealize.ShloMosaic.Adequacy
public import Idealize.ShloMosaic.Init
public import Idealize.ShloMosaic.Lib.StableHlo.Run

@[expose] public section

noncomputable section

namespace Cert.Proof

open Idealize.ShloMosaic Idealize.SL.Sem
open Cert.KernelIdeal.Exch (run_main summed summed_eq)

set_option smartUnfolding false in
/-- The kernel on the hardware's bits: it runs to the end on every device from any memory, its arguments are unchanged and every
    counter is zero again.  The two programs have the same text, so this is the run over any float values, read at bits. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The same of the kernel over exact values, from any memory. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The same from a memory of which the precondition holds. -/
theorem frame_ideal_pre : Cert.quiescent_KernelIdeal_pre_ids_in_table_KernelIdeal := fun m ρ _ =>
  (θ_run Cert.KernelIdeal.defs _ _).mono (fun _ h => ⟨fun c => ⟨(h.1 c).1, (h.1 c).2.1⟩, h.2⟩) (run_main (F := Ideal) m ρ)

/-- The reference: it runs to the end from any memory, its arguments unchanged; it has no counters. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The same from a memory of which the precondition holds. -/
theorem frame_reference_pre : Cert.quiescent_ReferenceIdeal_pre_ids_in_table_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Over exact values, where every index is a row number of the table, the kernel's result on every device is the reference's:
    the rows of the whole table that the indices name. -/
theorem lookup_equal : Cert.algebraic_KernelIdeal_ReferenceIdeal_pre_ids_in_table_KernelIdeal := by
  intro m ρ m' ρ' hpre hagree
  refine ⟨Cert.ReferenceIdeal.Value.embedded
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩)
      (run_main (F := Ideal) m ρ)
    refine summed_eq m _ _ (fun d => (hagree d).1) (fun d => (hagree d).2) (fun i => ?_) c
    obtain ⟨n, hn, e⟩ := Cert.Pre_ids_in_table_KernelIdeal.row_numbers _ _ (hpre 0) i
    exact ⟨n, hn, (congrFun (hagree 0).1 i).symm.trans e⟩
  · exact (θ_run Cert.ReferenceIdeal.defs _ _).mono (fun r h => ⟨(h 0).1.trans rfl, (h 0).2.1, (h 0).2.2⟩)
      (Cert.ReferenceIdeal.Value.run (F := Ideal) m' ρ')

/-- Everything that the certificate claims. -/
theorem claim : Cert.Claim :=
  ⟨Cert.Kernel.Gen.facts, Cert.KernelIdeal.Gen.facts, Cert.ReferenceIdeal.Gen.facts, Cert.Pre_ids_in_table_KernelIdeal.Gen.facts,
    Cert.Pre_ids_in_table_ReferenceIdeal.Gen.facts, frame_kernel, frame_ideal, frame_ideal_pre, frame_reference, frame_reference_pre,
    trivial, lookup_equal⟩

end Cert.Proof

end
